-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S10000x10000 : Shape := ⟨2, ![10000, 10000]⟩
abbrev S10000x1000 : Shape := ⟨2, ![10000, 1000]⟩
abbrev S10000x128 : Shape := ⟨2, ![10000, 128]⟩
abbrev S1000x128 : Shape := ⟨2, ![1000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  bcast_S_S10000x128 : S_.BroadcastsInDim S10000x128 (![] : Fin 0 → Fin S10000x128.rank)
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg10 : FVec F S128 .f32) (main_arg11 : FVec F S128x128 .f32) (main_arg12 : FVec F S128x128 .f32) (main_v4 : IVec S10000x10000 1) (main_v9 : IVec S10000x10000 1) (main_v12 : IVec S10000x128 1) (main_v15 : IVec S10000x128 1) (main_v16 : FVec F S128x128 .f32) (main_cst_5 : FVec F S_ .f32) : IVec S10000x10000 1 × IVec S10000x10000 1 × IVec S10000x128 1 × IVec S10000x128 1 × IVec S128x128 1 × IVec S128 1 × IVec S128x128 1 × IVec S128x128 1 :=
  let main_v17 : FVec F S128x128 .f32 := broadcastInDim S128x128 ![] bcast_S_S128x128 main_cst_5
  let main_v18 : IVec S128x128 1 := cmpf .olt main_v16 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_v22 : FVec F S128x128 .f32 := Host.absf main_arg11
  let main_cst_7 : FVec F S_ .f32 := constant S_ .f32 0x7F800000#32
  let main_v23 : FVec F S128x128 .f32 := broadcastInDim S128x128 ![] bcast_S_S128x128 main_cst_7
  let main_v24 : IVec S128x128 1 := cmpf .olt main_v22 main_v23
  let main_v25 : FVec F S128x128 .f32 := Host.absf main_arg12
  let main_cst_8 : FVec F S_ .f32 := constant S_ .f32 0x7F800000#32
  let main_v26 : FVec F S128x128 .f32 := broadcastInDim S128x128 ![] bcast_S_S128x128 main_cst_8
  let main_v27 : IVec S128x128 1 := cmpf .olt main_v25 main_v26
  (main_v4, main_v9, main_v12, main_v15, main_v18, main_v21, main_v24, main_v27)

def fn {F : FTy → Type} [FloatOps F] (main_arg0 : FVec F S10000x10000 .f32) (main_arg1 : FVec F S10000x10000 .f32) (main_arg2 : FVec F S10000x1000 .f32) (main_arg3 : FVec F S10000x1000 .f32) (main_arg4 : FVec F S10000x128 .f32) (main_arg5 : FVec F S10000x128 .f32) (main_arg6 : FVec F S1000x128 .f32) (main_arg7 : FVec F S1000x128 .f32) (main_arg8 : FVec F S128x128 .f32) (main_arg9 : FVec F S128 .f32) (main_arg10 : FVec F S128 .f32) (main_arg11 : FVec F S128x128 .f32) (main_arg12 : FVec F S128x128 .f32) (main_arg13 : FVec F S128x128 .f32) : IVec S10000x10000 1 × IVec S10000x10000 1 × IVec S10000x128 1 × IVec S10000x128 1 × IVec S128x128 1 × IVec S128 1 × IVec S128x128 1 × IVec S128x128 1 :=
  let main_cst : FVec F S_ .f32 := constant S_ .f32 0x00000000#32
  let main_v0 : FVec F S10000x10000 .f32 := broadcastInDim S10000x10000 ![] bcast_S_S10000x10000 main_cst
  let main_v1 : IVec S10000x10000 1 := cmpf .oeq main_arg0 main_v0
  let main_cst_0 : FVec F S_ .f32 := constant S_ .f32 0x3F800000#32
  let main_v2 : FVec F S10000x10000 .f32 := broadcastInDim S10000x10000 ![] bcast_S_S10000x10000 main_cst_0
  let main_v3 : IVec S10000x10000 1 := cmpf .oeq main_arg0 main_v2
  let main_v4 : IVec S10000x10000 1 := ori main_v1 main_v3
  let main_cst_1 : FVec F S_ .f32 := constant S_ .f32 0x00000000#32
  let main_v5 : FVec F S10000x10000 .f32 := broadcastInDim S10000x10000 ![] bcast_S_S10000x10000 main_cst_1
  let main_v6 : IVec S10000x10000 1 := cmpf .oeq main_arg1 main_v5
  let main_cst_2 : FVec F S_ .f32 := constant S_ .f32 0x3F800000#32
  let main_v7 : FVec F S10000x10000 .f32 := broadcastInDim S10000x10000 ![] bcast_S_S10000x10000 main_cst_2
  let main_v8 : IVec S10000x10000 1 := cmpf .oeq main_arg1 main_v7
  let main_v9 : IVec S10000x10000 1 := ori main_v6 main_v8
  let main_v10 : FVec F S10000x128 .f32 := Host.absf main_arg4
  let main_cst_3 : FVec F S_ .f32 := constant S_ .f32 0x7F800000#32
  let main_v11 : FVec F S10000x128 .f32 := broadcastInDim S10000x128 ![] bcast_S_S10000x128 main_cst_3
  let main_v12 : IVec S10000x128 1 := cmpf .olt main_v10 main_v11
  let main_v13 : FVec F S10000x128 .f32 := Host.absf main_arg5
  let main_cst_4 : FVec F S_ .f32 := constant S_ .f32 0x7F800000#32
  let main_v14 : FVec F S10000x128 .f32 := broadcastInDim S10000x128 ![] bcast_S_S10000x128 main_cst_4
  let main_v15 : IVec S10000x128 1 := cmpf .olt main_v13 main_v14
  let main_v16 : FVec F S128x128 .f32 := Host.absf main_arg8
  let main_cst_5 : FVec F S_ .f32 := constant S_ .f32 0x7F800000#32
  fn_part1 (F := F) main_arg10 main_arg11 main_arg12 main_v4 main_v9 main_v12 main_v15 main_v16 main_cst_5
-- ==== Kernel.lean ====
abbrev S10000x10000 : Shape := ⟨2, ![10000, 10000]⟩
abbrev S10000x1000 : Shape := ⟨2, ![10000, 1000]⟩
abbrev S10000x128 : Shape := ⟨2, ![10000, 128]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S10000x129 : Shape := ⟨2, ![10000, 129]⟩
abbrev S10000x1 : Shape := ⟨2, ![10000, 1]⟩
abbrev S1x10000 : Shape := ⟨2, ![1, 10000]⟩
abbrev S1x1 : Shape := ⟨2, ![1, 1]⟩
abbrev S1 : Shape := ⟨1, ![1]⟩
abbrev S10000x256 : Shape := ⟨2, ![10000, 256]⟩
abbrev S200x10000 : Shape := ⟨2, ![200, 10000]⟩
abbrev S400x128 : Shape := ⟨2, ![400, 128]⟩
abbrev S400x1 : Shape := ⟨2, ![400, 1]⟩
abbrev S400x1000 : Shape := ⟨2, ![400, 1000]⟩
abbrev S400x256 : Shape := ⟨2, ![400, 256]⟩
abbrev S200x1 : Shape := ⟨2, ![200, 1]⟩
abbrev S200x129 : Shape := ⟨2, ![200, 129]⟩
abbrev S400x129 : Shape := ⟨2, ![400, 129]⟩
abbrev S400 : Shape := ⟨1, ![400]⟩

abbrev nBuf : Space → Nat
  | .hbm => 36
  | .vmem => 58
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x1000, .f32⟩
  | .hbm, ⟨3, _⟩ => ⟨S10000x1000, .f32⟩
  | .hbm, ⟨4, _⟩ => ⟨S10000x128, .f32⟩
  | .hbm, ⟨5, _⟩ => ⟨S10000x128, .f32⟩
  | .hbm, ⟨6, _⟩ => ⟨S1000x128, .f32⟩
  | .hbm, ⟨7, _⟩ => ⟨S1000x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S128x1, .f32⟩
  | .hbm, ⟨16, _⟩ => ⟨S128x1, .bf16⟩
  | .hbm, ⟨17, _⟩ => ⟨S1x128, .f32⟩
  | .hbm, ⟨18, _⟩ => ⟨S1x128, .bf16⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S1000x128, .bf16⟩
  | .hbm, ⟨23, _⟩ => ⟨S10000x129, .bf16⟩
  | .hbm, ⟨24, _⟩ => ⟨S10000x1, .f32⟩
  | .hbm, ⟨25, _⟩ => ⟨S1x10000, .f32⟩
  | .hbm, ⟨26, _⟩ => ⟨S1x10000, .f32⟩
  | .hbm, ⟨27, _⟩ => ⟨S1x1, .f32⟩
  | .hbm, ⟨28, _⟩ => ⟨S10000x256, .f32⟩
  | .hbm, ⟨29, _⟩ => ⟨S1000x128, .bf16⟩
  | .hbm, ⟨30, _⟩ => ⟨S10000x129, .bf16⟩
  | .hbm, ⟨31, _⟩ => ⟨S10000x1, .f32⟩
  | .hbm, ⟨32, _⟩ => ⟨S1x10000, .f32⟩
  | .hbm, ⟨33, _⟩ => ⟨S1x10000, .f32⟩
  | .hbm, ⟨34, _⟩ => ⟨S1x1, .f32⟩
  | .hbm, ⟨35, _⟩ => ⟨S10000x256, .f32⟩
  | .local _ .vmem, ⟨0, _⟩ => ⟨S10000x128, .f32⟩
  | .local _ .vmem, ⟨1, _⟩ => ⟨S128x128, .bf16⟩
  | .local _ .vmem, ⟨2, _⟩ => ⟨S128x1, .bf16⟩
  | .local _ .vmem, ⟨3, _⟩ => ⟨S1x128, .bf16⟩
  | .local _ .vmem, ⟨4, _⟩ => ⟨S10000x129, .bf16⟩
  | .local _ .vmem, ⟨5, _⟩ => ⟨S10000x1, .f32⟩
  | .local _ .vmem, ⟨6, _⟩ => ⟨S1x10000, .f32⟩
  | .local _ .vmem, ⟨7, _⟩ => ⟨S1x10000, .f32⟩
  | .local _ .vmem, ⟨8, _⟩ => ⟨S1x1, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S200x10000, .f32⟩
  | .local _ .vmem, ⟨13, _⟩ => ⟨S400x128, .f32⟩
  | .local _ .vmem, ⟨14, _⟩ => ⟨S400x128, .f32⟩
  | .local _ .vmem, ⟨15, _⟩ => ⟨S400x1, .f32⟩
  | .local _ .vmem, ⟨16, _⟩ => ⟨S400x1, .f32⟩
  | .local _ .vmem, ⟨17, _⟩ => ⟨S400x1000, .f32⟩
  | .local _ .vmem, ⟨18, _⟩ => ⟨S400x1000, .f32⟩
  | .local _ .vmem, ⟨19, _⟩ => ⟨S10000x129, .bf16⟩
  | .local _ .vmem, ⟨20, _⟩ => ⟨S1x10000, .f32⟩
  | .local _ .vmem, ⟨21, _⟩ => ⟨S1x10000, .f32⟩
  | .local _ .vmem, ⟨22, _⟩ => ⟨S1x1, .f32⟩
  | .local _ .vmem, ⟨23, _⟩ => ⟨S1000x128, .bf16⟩
  | .local _ .vmem, ⟨24, _⟩ => ⟨S128x128, .bf16⟩
  | .local _ .vmem, ⟨25, _⟩ => ⟨S128x128, .bf16⟩
  | .local _ .vmem, ⟨26, _⟩ => ⟨S128x128, .bf16⟩
  | .local _ .vmem, ⟨27, _⟩ => ⟨S400x256, .f32⟩
  | .local _ .vmem, ⟨28, _⟩ => ⟨S400x256, .f32⟩
  | .local _ .vmem, ⟨29, _⟩ => ⟨S10000x128, .f32⟩
  | .local _ .vmem, ⟨30, _⟩ => ⟨S128x128, .bf16⟩
  | .local _ .vmem, ⟨31, _⟩ => ⟨S128x1, .bf16⟩
  | .local _ .vmem, ⟨32, _⟩ => ⟨S1x128, .bf16⟩
  | .local _ .vmem, ⟨33, _⟩ => ⟨S10000x129, .bf16⟩
  | .local _ .vmem, ⟨34, _⟩ => ⟨S10000x1, .f32⟩
  | .local _ .vmem, ⟨35, _⟩ => ⟨S1x10000, .f32⟩
  | .local _ .vmem, ⟨36, _⟩ => ⟨S1x10000, .f32⟩
  | .local _ .vmem, ⟨37, _⟩ => ⟨S1x1, .f32⟩
  | .local _ .vmem, ⟨38, _⟩ => ⟨S200x10000, .f32⟩
  | .local _ .vmem, ⟨39, _⟩ => ⟨S200x10000, .f32⟩
  | .local _ .vmem, ⟨40, _⟩ => ⟨S200x10000, .f32⟩
  | .local _ .vmem, ⟨41, _⟩ => ⟨S200x10000, .f32⟩
  | .local _ .vmem, ⟨42, _⟩ => ⟨S400x128, .f32⟩
  | .local _ .vmem, ⟨43, _⟩ => ⟨S400x128, .f32⟩
  | .local _ .vmem, ⟨44, _⟩ => ⟨S400x1, .f32⟩
  | .local _ .vmem, ⟨45, _⟩ => ⟨S400x1, .f32⟩
  | .local _ .vmem, ⟨46, _⟩ => ⟨S400x1000, .f32⟩
  | .local _ .vmem, ⟨47, _⟩ => ⟨S400x1000, .f32⟩
  | .local _ .vmem, ⟨48, _⟩ => ⟨S10000x129, .bf16⟩
  | .local _ .vmem, ⟨49, _⟩ => ⟨S1x10000, .f32⟩
  | .local _ .vmem, ⟨50, _⟩ => ⟨S1x10000, .f32⟩
  | .local _ .vmem, ⟨51, _⟩ => ⟨S1x1, .f32⟩
  | .local _ .vmem, ⟨52, _⟩ => ⟨S1000x128, .bf16⟩
  | .local _ .vmem, ⟨53, _⟩ => ⟨S128x128, .bf16⟩
  | .local _ .vmem, ⟨54, _⟩ => ⟨S128x128, .bf16⟩
  | .local _ .vmem, ⟨55, _⟩ => ⟨S128x128, .bf16⟩
  | .local _ .vmem, ⟨56, _⟩ => ⟨S400x256, .f32⟩
  | .local _ .vmem, ⟨57, _⟩ => ⟨S400x256, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v12_4 : Ref sig .tc := ⟨.hbm, 34, rfl⟩
abbrev main_v13 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg13_1 : Ref sig .tc := ⟨.vmem, 28, rfl⟩
abbrev cc2_stg0_0 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg11_0 : Ref sig .tc := ⟨.vmem, 54, rfl⟩
abbrev cc3_stg12_0 : Ref sig .tc := ⟨.vmem, 55, rfl⟩
abbrev cc3_stg13_0 : Ref sig .tc := ⟨.vmem, 56, rfl⟩
abbrev cc3_stg13_1 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem13_1 : DmaSem sig := 28
abbrev cc2_sem0_0 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem9_0 : DmaSem sig := 52
abbrev cc3_sem10_0 : DmaSem sig := 53
abbrev cc3_sem11_0 : DmaSem sig := 54
abbrev cc3_sem12_0 : DmaSem sig := 55
abbrev cc3_sem13_0 : DmaSem sig := 56
abbrev cc3_sem13_1 : DmaSem sig := 57

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x129 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x129 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1000x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S400x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x1 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x129 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10000x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x10000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x10000 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x1000 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S10000x129 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10000 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x10000 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1000x128 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x128 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x128 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S400x256 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]
-- ==== ReferenceIdeal.lean ====
abbrev S10000x10000 : Shape := ⟨2, ![10000, 10000]⟩
abbrev S10000x1000 : Shape := ⟨2, ![10000, 1000]⟩
abbrev S10000x128 : Shape := ⟨2, ![10000, 128]⟩
abbrev S1000x128 : Shape := ⟨2, ![1000, 128]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x256 : Shape := ⟨2, ![10000, 256]⟩
abbrev S10000x2x128 : Shape := ⟨3, ![10000, 2, 128]⟩
abbrev S10000x2x2 : Shape := ⟨3, ![10000, 2, 2]⟩
abbrev S10000x2 : Shape := ⟨2, ![10000, 2]⟩
abbrev S10000x2x1 : Shape := ⟨3, ![10000, 2, 1]⟩

abbrev nBuf : Space → Nat
  | .hbm => 184
  | .vmem => 0
  | .smem => 0
  | _ => 0

abbrev hbmTy0_0 (i : Nat) : BufTy := match i % 128 with
  | 0 => ⟨S10000x10000, .f32⟩
  | 1 => ⟨S10000x10000, .f32⟩
  | 2 => ⟨S10000x1000, .f32⟩
  | 3 => ⟨S10000x1000, .f32⟩
  | 4 => ⟨S10000x128, .f32⟩
  | 5 => ⟨S10000x128, .f32⟩
  | 6 => ⟨S1000x128, .f32⟩
  | 7 => ⟨S1000x128, .f32⟩
  | 8 => ⟨S128x128, .f32⟩
  | 9 => ⟨S128, .f32⟩
  | 10 => ⟨S128, .f32⟩
  | 11 => ⟨S128x128, .f32⟩
  | 12 => ⟨S128x128, .f32⟩
  | 13 => ⟨S128x128, .f32⟩
  | 14 => ⟨S_, .f32⟩
  | 15 => ⟨S10000, .f32⟩
  | 16 => ⟨S10000x1, .f32⟩
  | 17 => ⟨S10000x128, .f32⟩
  | 18 => ⟨S10000x128, .f32⟩
  | 19 => ⟨S10000x128, .f32⟩
  | 20 => ⟨S10000x128, .f32⟩
  | 21 => ⟨S10000, .f32⟩
  | 22 => ⟨S10000, .f32⟩
  | 23 => ⟨S10000x1, .f32⟩
  | 24 => ⟨S1x10000, .f32⟩
  | 25 => ⟨S10000x10000, .f32⟩
  | 26 => ⟨S10000x10000, .f32⟩
  | 27 => ⟨S10000x10000, .f32⟩
  | 28 => ⟨S_, .f32⟩
  | 29 => ⟨S_, .f32⟩
  | 30 => ⟨S10000x10000, .f32⟩
  | 31 => ⟨S10000x10000, .i1⟩
  | 32 => ⟨S_, .f32⟩
  | 33 => ⟨S10000x10000, .f32⟩
  | 34 => ⟨S10000x10000, .f32⟩
  | 35 => ⟨S10000x10000, .f32⟩
  | 36 => ⟨S_, .f32⟩
  | 37 => ⟨S10000x10000, .f32⟩
  | 38 => ⟨S10000x10000, .i1⟩
  | 39 => ⟨S_, .f32⟩
  | 40 => ⟨S_, .f32⟩
  | 41 => ⟨S10000x10000, .f32⟩
  | 42 => ⟨S10000x10000, .f32⟩
  | 43 => ⟨S_, .f32⟩
  | 44 => ⟨S10000, .f32⟩
  | 45 => ⟨S_, .f32⟩
  | 46 => ⟨S10000, .f32⟩
  | 47 => ⟨S10000, .f32⟩
  | 48 => ⟨S10000x1, .f32⟩
  | 49 => ⟨S10000x10000, .f32⟩
  | 50 => ⟨S10000x10000, .f32⟩
  | 51 => ⟨S10000x10000, .f32⟩
  | 52 => ⟨S_, .f32⟩
  | 53 => ⟨S10000, .f32⟩
  | 54 => ⟨S10000x1, .f32⟩
  | 55 => ⟨S10000x10000, .f32⟩
  | 56 => ⟨S10000x10000, .f32⟩
  | 57 => ⟨S10000x128, .f32⟩
  | 58 => ⟨S10000x128, .f32⟩
  | 59 => ⟨S_, .f32⟩
  | 60 => ⟨S10000, .f32⟩
  | 61 => ⟨S10000x1, .f32⟩
  | 62 => ⟨S10000x1, .f32⟩
  | 63 => ⟨S_, .f32⟩
  | 64 => ⟨S10000x1, .f32⟩
  | 65 => ⟨S10000x1, .f32⟩
  | 66 => ⟨S10000x128, .f32⟩
  | 67 => ⟨S10000x128, .f32⟩
  | 68 => ⟨S10000x256, .f32⟩
  | 69 => ⟨S10000x2x128, .f32⟩
  | 70 => ⟨S10000x2x128, .f32⟩
  | 71 => ⟨S10000x2x128, .f32⟩
  | 72 => ⟨S10000x2x128, .f32⟩
  | 73 => ⟨S10000x2x2, .f32⟩
  | 74 => ⟨S_, .f32⟩
  | 75 => ⟨S_, .f32⟩
  | 76 => ⟨S10000x2x2, .f32⟩
  | 77 => ⟨S10000x2x2, .f32⟩
  | 78 => ⟨S_, .f32⟩
  | 79 => ⟨S10000x2, .f32⟩
  | 80 => ⟨S_, .f32⟩
  | 81 => ⟨S10000x2, .f32⟩
  | 82 => ⟨S10000x2, .f32⟩
  | 83 => ⟨S10000x2x1, .f32⟩
  | 84 => ⟨S10000x2x2, .f32⟩
  | 85 => ⟨S10000x2x2, .f32⟩
  | 86 => ⟨S10000x2x2, .f32⟩
  | 87 => ⟨S_, .f32⟩
  | 88 => ⟨S10000x2, .f32⟩
  | 89 => ⟨S10000x2x1, .f32⟩
  | 90 => ⟨S10000x2x2, .f32⟩
  | 91 => ⟨S10000x2x2, .f32⟩
  | 92 => ⟨S10000x2x128, .f32⟩
  | 93 => ⟨S_, .f32⟩
  | 94 => ⟨S10000x128, .f32⟩
  | 95 => ⟨S_, .f32⟩
  | 96 => ⟨S10000x128, .f32⟩
  | 97 => ⟨S10000x128, .f32⟩
  | 98 => ⟨S10000x256, .f32⟩
  | 99 => ⟨S_, .f32⟩
  | 100 => ⟨S10000, .f32⟩
  | 101 => ⟨S10000x1, .f32⟩
  | 102 => ⟨S10000x128, .f32⟩
  | 103 => ⟨S10000x128, .f32⟩
  | 104 => ⟨S10000x128, .f32⟩
  | 105 => ⟨S10000x128, .f32⟩
  | 106 => ⟨S10000, .f32⟩
  | 107 => ⟨S10000, .f32⟩
  | 108 => ⟨S10000x1, .f32⟩
  | 109 => ⟨S1x10000, .f32⟩
  | 110 => ⟨S10000x10000, .f32⟩
  | 111 => ⟨S10000x10000, .f32⟩
  | 112 => ⟨S10000x10000, .f32⟩
  | 113 => ⟨S_, .f32⟩
  | 114 => ⟨S_, .f32⟩
  | 115 => ⟨S10000x10000, .f32⟩
  | 116 => ⟨S10000x10000, .i1⟩
  | 117 => ⟨S_, .f32⟩
  | 118 => ⟨S10000x10000, .f32⟩
  | 119 => ⟨S10000x10000, .f32⟩
  | 120 => ⟨S10000x10000, .f32⟩
  | 121 => ⟨S_, .f32⟩
  | 122 => ⟨S10000x10000, .f32⟩
  | 123 => ⟨S10000x10000, .i1⟩
  | 124 => ⟨S_, .f32⟩
  | 125 => ⟨S_, .f32⟩
  | 126 => ⟨S10000x10000, .f32⟩
  | 127 => ⟨S10000x10000, .f32⟩
  | _ => ⟨S10000x10000, .f32⟩

abbrev hbmTy0_1 (i : Nat) : BufTy := match i % 128 with
  | 0 => ⟨S_, .f32⟩
  | 1 => ⟨S10000, .f32⟩
  | 2 => ⟨S_, .f32⟩
  | 3 => ⟨S10000, .f32⟩
  | 4 => ⟨S10000, .f32⟩
  | 5 => ⟨S10000x1, .f32⟩
  | 6 => ⟨S10000x10000, .f32⟩
  | 7 => ⟨S10000x10000, .f32⟩
  | 8 => ⟨S10000x10000, .f32⟩
  | 9 => ⟨S_, .f32⟩
  | 10 => ⟨S10000, .f32⟩
  | 11 => ⟨S10000x1, .f32⟩
  | 12 => ⟨S10000x10000, .f32⟩
  | 13 => ⟨S10000x10000, .f32⟩
  | 14 => ⟨S10000x128, .f32⟩
  | 15 => ⟨S10000x128, .f32⟩
  | 16 => ⟨S_, .f32⟩
  | 17 => ⟨S10000, .f32⟩
  | 18 => ⟨S10000x1, .f32⟩
  | 19 => ⟨S10000x1, .f32⟩
  | 20 => ⟨S_, .f32⟩
  | 21 => ⟨S10000x1, .f32⟩
  | 22 => ⟨S10000x1, .f32⟩
  | 23 => ⟨S10000x128, .f32⟩
  | 24 => ⟨S10000x128, .f32⟩
  | 25 => ⟨S10000x256, .f32⟩
  | 26 => ⟨S10000x2x128, .f32⟩
  | 27 => ⟨S10000x2x128, .f32⟩
  | 28 => ⟨S10000x2x128, .f32⟩
  | 29 => ⟨S10000x2x128, .f32⟩
  | 30 => ⟨S10000x2x2, .f32⟩
  | 31 => ⟨S_, .f32⟩
  | 32 => ⟨S_, .f32⟩
  | 33 => ⟨S10000x2x2, .f32⟩
  | 34 => ⟨S10000x2x2, .f32⟩
  | 35 => ⟨S_, .f32⟩
  | 36 => ⟨S10000x2, .f32⟩
  | 37 => ⟨S_, .f32⟩
  | 38 => ⟨S10000x2, .f32⟩
  | 39 => ⟨S10000x2, .f32⟩
  | 40 => ⟨S10000x2x1, .f32⟩
  | 41 => ⟨S10000x2x2, .f32⟩
  | 42 => ⟨S10000x2x2, .f32⟩
  | 43 => ⟨S10000x2x2, .f32⟩
  | 44 => ⟨S_, .f32⟩
  | 45 => ⟨S10000x2, .f32⟩
  | 46 => ⟨S10000x2x1, .f32⟩
  | 47 => ⟨S10000x2x2, .f32⟩
  | 48 => ⟨S10000x2x2, .f32⟩
  | 49 => ⟨S10000x2x128, .f32⟩
  | 50 => ⟨S_, .f32⟩
  | 51 => ⟨S10000x128, .f32⟩
  | 52 => ⟨S_, .f32⟩
  | 53 => ⟨S10000x128, .f32⟩
  | 54 => ⟨S10000x128, .f32⟩
  | 55 => ⟨S10000x256, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_cst_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v29 : Ref sig .tc := ⟨.hbm, 62, rfl⟩
abbrev main_cst_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_11 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v72 : Ref sig .tc := ⟨.hbm, 120, rfl⟩
abbrev main_cst_15 : Ref sig .tc := ⟨.hbm, 121, rfl⟩
abbrev main_v73 : Ref sig .tc := ⟨.hbm, 122, rfl⟩
abbrev main_v74 : Ref sig .tc := ⟨.hbm, 123, rfl⟩
abbrev main_cst_16 : Ref sig .tc := ⟨.hbm, 124, rfl⟩
abbrev main_call4_v0 : Ref sig .tc := ⟨.hbm, 125, rfl⟩
abbrev main_call4_v1 : Ref sig .tc := ⟨.hbm, 126, rfl⟩
abbrev main_v75 : Ref sig .tc := ⟨.hbm, 127, rfl⟩
abbrev main_cst_17 : Ref sig .tc := ⟨.hbm, 128, rfl⟩
abbrev main_v76 : Ref sig .tc := ⟨.hbm, 129, rfl⟩
abbrev main_cst_18 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_19 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_call5_v0 : Ref sig .tc := ⟨.hbm, 143, rfl⟩
abbrev main_call5_cst : Ref sig .tc := ⟨.hbm, 144, rfl⟩
abbrev main_call5_v1 : Ref sig .tc := ⟨.hbm, 145, rfl⟩
abbrev main_call5_v2 : Ref sig .tc := ⟨.hbm, 146, rfl⟩
abbrev main_v88 : Ref sig .tc := ⟨.hbm, 147, rfl⟩
abbrev main_cst_20 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_21 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_22 : Ref sig .tc := ⟨.hbm, 163, rfl⟩
abbrev main_v102 : Ref sig .tc := ⟨.hbm, 164, rfl⟩
abbrev main_cst_23 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_24 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_25 : Ref sig .tc := ⟨.hbm, 178, rfl⟩
abbrev main_v114 : Ref sig .tc := ⟨.hbm, 179, rfl⟩
abbrev main_cst_26 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩

abbrev nD : Nat := 1
abbrev τ : Topo := Topo.v7x

variable {F : FTy → Type} [FloatOps F]
-- ==== Proof.Run.lean ====
/- The kernel's run: what its two result arrays end with, beside its arguments unchanged. -/
module

public import proofs.«01_k».proof.Proof.Gen.KernelIdeal.Frame

@[expose] public section

set_option maxRecDepth 16384

noncomputable section

namespace Cert.Branch.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option backward.isDefEq.respectTransparency.types false in
/-- Every run ends with the two results at the last boundary's contents and the arguments as launched. -/
theorem results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v10 (by decide)), h c _ (mem_uc main_v13 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.Branch.Run

end
-- ==== Proof.Scalar.lean ====
/- The arithmetic of one node of the branch, over the extended reals: what the kernel computes for it and what the plain
   mathematics computes for it, and that the two agree when the scores are finite. -/
module

public import Idealize.ShloMosaic.PureOps.Ideal
public import Idealize.ShloMosaic.PureOps.Ideal.Laws
public import Idealize.ShloMosaic.Lib.IdealHost

@[expose] public section

noncomputable section

namespace Cert.Branch

open Idealize.ShloMosaic

/-! ## Finite extended reals -/

/-- A finite extended real. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.larger {x y : EReal} (hx : IsReal x) (hy : IsReal y) : IsReal (max x y) := by
  rcases le_total x y with h | h
  · rwa [max_eq_right h]
  · rwa [max_eq_left h]

theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

theorem IsReal.sum {ι : Type} (S : Finset ι) (f : ι → EReal) (h : ∀ i, IsReal (f i)) : IsReal (∑ i ∈ S, f i) := by
  choose g hg using h
  exact ⟨∑ i ∈ S, g i, by rw [← coe_sum]; exact Finset.sum_congr rfl fun i _ => hg i⟩

theorem coe_max (a b : ℝ) : max (a : EReal) (b : EReal) = ((max a b : ℝ) : EReal) :=
  (EReal.coe_strictMono.monotone.map_max (a := a) (b := b)).symm

theorem div_coe_coe (x : ℝ) {y : ℝ} (hy : y ≠ 0) : Ideal.div (x : EReal) (y : EReal) = ((x / y : ℝ) : EReal) := by
  rw [Ideal.div_coe hy, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a / b, div_coe_coe a hb⟩

/-- A running maximum of finite values that starts at minus infinity is finite, if there is a value at all. -/
theorem IsReal.fold_max {ι : Type} (S : Finset ι) (hS : S.Nonempty) (f : ι → EReal)
    (h : ∀ i, f i = ⊥ ∨ IsReal (f i)) (hx : ∃ i ∈ S, IsReal (f i)) : IsReal (S.fold max ⊥ f) := by
  classical
  have key : ∀ T : Finset ι, T.fold max ⊥ f = ⊥ ∧ (∀ i ∈ T, f i = ⊥) ∨ IsReal (T.fold max ⊥ f) := by
    intro T
    induction T using Finset.induction_on with
    | empty => left; exact ⟨rfl, fun i hi => absurd hi (Finset.notMem_empty i)⟩
    | insert a T ha ih =>
      rw [Finset.fold_insert ha]
      rcases h a with h1 | h1 <;> rcases ih with ⟨h2, h3⟩ | h2
      · left; rw [h1, h2]
        refine ⟨max_self _, fun i hi => ?_⟩
        rcases Finset.mem_insert.mp hi with rfl | hi
        · exact h1
        · exact h3 i hi
      · right; rw [h1, max_eq_right bot_le]; exact h2
      · right; rw [h2, max_eq_left bot_le]; exact h1
      · right; exact h1.larger h2
  rcases key S with ⟨_, h2⟩ | h2
  · obtain ⟨i, hi, r, hr⟩ := hx
    exact absurd ((h2 i hi).symm.trans hr) (EReal.bot_ne_coe r)
  · exact h2

/-! ## The constants -/

/-- The negative slope of the leaky rectifier, f32's 0.2. -/
abbrev slope : EReal := Ideal.ofBits .f32 0x3E4CCCCD#32

/-- The floor under a node's norm, f32's 1e-12. -/
abbrev tiny : EReal := Ideal.ofBits .f32 0x2B8CBCCC#32

theorem slope_eq : slope = ((13421773 / 67108864 : ℝ) : EReal) := by
  simp [slope, Ideal.ofBits, Ideal.ieee, -EReal.coe_mul]; norm_num

theorem tiny_pos : ∃ r : ℝ, tiny = (r : EReal) ∧ 0 < r := by
  refine ⟨_, by simp [tiny, Ideal.ofBits, Ideal.ieee, -EReal.coe_mul]; rfl, by positivity⟩

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_eq : Ideal.ofBits .f32 0x43000000#32 = ((128 : ℝ) : EReal) := by
  simp [Ideal.ofBits, Ideal.ieee, -EReal.coe_mul]; norm_num

theorem low_eq : Ideal.ofBits .f32 0xFF800000#32 = ⊥ := by
  simp [Ideal.ofBits, Ideal.ieee]

theorem high_eq : Ideal.ofBits .f32 0x7F800000#32 = ⊤ := by
  simp [Ideal.ofBits, Ideal.ieee]

/-! ## One node's neighbourhood average -/

/-- The leaky rectifier. -/
def leaky (x : ℝ) : ℝ := max x (13421773 / 67108864 * x)

/-- The kernel's unnormalised weight of one neighbour: `s` the node's own score, `D` the largest neighbour score, `u` and
    `v` the exponentials of the neighbour's score and of its scaled score, `a` the edge. -/
def weightK (s D u v a : EReal) : EReal :=
  max (Ideal.exp (s - max (s + D) 0) * u) (Ideal.exp (slope * s - max (s + D) 0) * v) * a

/-- The plain masked score of one neighbour. -/
def scoreR (s d a : EReal) : EReal :=
  if 0 < a then (if 0 ≤ s + d then s + d else slope * (s + d)) else ⊥

theorem weightK_eq (s D d a : ℝ) :
    weightK s D (Ideal.exp d) (Ideal.exp (slope * d)) a
      = ((Real.exp (leaky (s + d)) * a * Real.exp (-(max (s + D) 0)) : ℝ) : EReal) := by
  unfold weightK
  rw [slope_eq, ← EReal.coe_mul, ← EReal.coe_mul, ← EReal.coe_add, ← EReal.coe_zero, coe_max, ← EReal.coe_sub, ← EReal.coe_sub,
    Ideal.exp_coe, Ideal.exp_coe, Ideal.exp_coe, Ideal.exp_coe, ← EReal.coe_mul, ← EReal.coe_mul, coe_max, ← EReal.coe_mul]
  congr 1
  rw [← Real.exp_add, ← Real.exp_add, ← Real.exp_monotone.map_max, mul_right_comm, ← Real.exp_add]
  congr 2
  unfold leaky
  rw [← max_add_add_right]
  congr 1 <;> ring

theorem scoreR_edge (s d : ℝ) {a : EReal} (ha : a = 1) : scoreR s d a = ((leaky (s + d) : ℝ) : EReal) := by
  unfold scoreR leaky
  rw [if_pos (by rw [ha]; exact zero_lt_one), slope_eq, ← EReal.coe_add, ← EReal.coe_mul]
  by_cases h : 0 ≤ s + d
  · rw [if_pos (by exact_mod_cast h), max_eq_left]
    nlinarith
  · rw [if_neg (by rw [← EReal.coe_zero, EReal.coe_le_coe_iff]; exact h), max_eq_right]
    nlinarith [not_le.mp h]

theorem scoreR_none (s d : EReal) {a : EReal} (ha : a = 0) : scoreR s d a = ⊥ := by
  unfold scoreR; rw [if_neg (by rw [ha]; exact lt_irrefl _)]

/-- The kernel's average of the neighbours' features `x` (the weights' sum taken against a column of ones). -/
def avgK {ι : Type} [Fintype ι] (s D : EReal) (u v a x : ι → EReal) : EReal :=
  Ideal.div (∑ j, weightK s D (u j) (v j) (a j) * x j) (∑ j, weightK s D (u j) (v j) (a j) * 1)

/-- The largest masked score. -/
def topR {ι : Type} [Fintype ι] (s : EReal) (d a : ι → EReal) : EReal :=
  max ⊥ (Finset.univ.fold max ⊥ fun j => scoreR s (d j) (a j))

/-- The plain average: softmax of the masked scores against the features. -/
def avgR {ι : Type} [Fintype ι] (s : EReal) (d a x : ι → EReal) : EReal :=
  ∑ j, Ideal.div (Ideal.exp (scoreR s (d j) (a j) - topR s d a))
    (0 + ∑ l, Ideal.exp (scoreR s (d l) (a l) - topR s d a)) * x j

/-- Both averages are the same finite number when the scores and features are finite, the graph is unweighted and
    the node has a neighbour. -/
theorem avg_eq {ι : Type} [Fintype ι] {s D : EReal} {d a x : ι → EReal} (hs : IsReal s) (hD : IsReal D)
    (hd : ∀ j, IsReal (d j)) (hx : ∀ j, IsReal (x j)) (ha : ∀ j, a j = 0 ∨ a j = 1) (hn : ∃ j, a j = 1) :
    avgK s D (fun j => Ideal.exp (d j)) (fun j => Ideal.exp (slope * d j)) a x = avgR s d a x ∧ IsReal (avgR s d a x) := by
  classical
  obtain ⟨s, rfl⟩ := hs; obtain ⟨D, rfl⟩ := hD
  choose d' hd' using hd; obtain rfl : d = fun j => (d' j : EReal) := funext hd'
  choose x' hx' using hx; obtain rfl : x = fun j => (x' j : EReal) := funext hx'
  have ha' : ∀ j, a j = ((if a j = 1 then (1 : ℝ) else 0 : ℝ) : EReal) := by
    intro j; rcases ha j with h | h
    · rw [if_neg (by rw [h]; exact zero_ne_one)]; exact h
    · rw [if_pos h]; exact h
  set b : ι → ℝ := fun j => if a j = 1 then (1 : ℝ) else 0 with hb
  let w : ι → ℝ := fun j => Real.exp (leaky (s + d' j)) * b j
  have hw0 : ∀ j, 0 ≤ w j := fun j => mul_nonneg (Real.exp_pos _).le (by simp only [hb]; split <;> norm_num)
  have hW : 0 < ∑ j, w j := by
    obtain ⟨j, hj⟩ := hn
    refine Finset.sum_pos' (fun j _ => hw0 j) ⟨j, Finset.mem_univ j, ?_⟩
    simp only [w, hb, if_pos hj]; positivity
  have hM : IsReal (topR (s : EReal) (fun j => (d' j : EReal)) a) := by
    unfold topR
    rw [max_eq_right bot_le]
    obtain ⟨j, hj⟩ := hn
    refine IsReal.fold_max _ ⟨j, Finset.mem_univ j⟩ _ (fun i => ?_) ⟨j, Finset.mem_univ j, ?_⟩
    · rcases ha i with h | h
      · exact Or.inl (scoreR_none _ _ h)
      · exact Or.inr ⟨_, scoreR_edge s (d' i) h⟩
    · exact ⟨_, scoreR_edge s (d' j) hj⟩
  obtain ⟨M, hM⟩ := hM
  have hE : ∀ j, Ideal.exp (scoreR s (d' j) (a j) - (M : EReal)) = ((w j * Real.exp (-M) : ℝ) : EReal) := by
    intro j
    rcases ha j with h | h
    · rw [scoreR_none _ _ h, EReal.bot_sub, Ideal.exp_bot]
      simp only [w, hb, if_neg (show ¬ a j = 1 by rw [h]; exact zero_ne_one)]; simp
    · rw [scoreR_edge s (d' j) h, ← EReal.coe_sub, Ideal.exp_coe]
      simp only [w, hb, if_pos h, mul_one, ← Real.exp_add, sub_eq_add_neg]
  have hK : ∀ j, weightK s D (Ideal.exp (d' j)) (Ideal.exp (slope * d' j)) (a j)
      = ((w j * Real.exp (-(max (s + D) 0)) : ℝ) : EReal) := by
    intro j
    rw [ha' j, weightK_eq]
  have hR : avgR (s : EReal) (fun j => (d' j : EReal)) a (fun j => (x' j : EReal))
      = (((∑ j, w j * x' j) / ∑ j, w j : ℝ) : EReal) := by
    unfold avgR
    simp only [hM, hE, zero_add]
    rw [coe_sum, ← Finset.sum_mul]
    simp only [div_coe_coe _ (mul_pos hW (Real.exp_pos (-M))).ne', ← EReal.coe_mul]
    rw [coe_sum, Finset.sum_div]
    congr 1
    refine Finset.sum_congr rfl fun j _ => ?_
    rw [mul_div_mul_right _ _ (Real.exp_pos _).ne']; ring
  refine ⟨?_, hR ▸ isReal_coe _⟩
  rw [hR]
  unfold avgK
  simp only [hK, mul_one, ← EReal.coe_mul]
  rw [coe_sum, coe_sum, ← Finset.sum_mul, div_coe_coe _ (mul_pos hW (Real.exp_pos _)).ne']
  congr 1
  rw [show ∑ j, w j * Real.exp (-(max (s + D) 0)) * x' j = (∑ j, w j * x' j) * Real.exp (-(max (s + D) 0)) by
    rw [Finset.sum_mul]; exact Finset.sum_congr rfl fun j _ => by ring]
  exact mul_div_mul_right _ _ (Real.exp_pos _).ne'

/-- A sum of infinities and zeros is one of them. -/
theorem far_sum {ι : Type} (S : Finset ι) (f : ι → EReal) (h : ∀ i, f i = ⊥ ∨ f i = ⊤ ∨ f i = 0) :
    (∑ i ∈ S, f i) = ⊥ ∨ (∑ i ∈ S, f i) = ⊤ ∨ (∑ i ∈ S, f i) = 0 := by
  classical
  induction S using Finset.induction_on with
  | empty => simp
  | insert a S ha ih =>
    rw [Finset.sum_insert ha]
    rcases h a with h1 | h1 | h1 <;> rcases ih with h2 | h2 | h2 <;> rw [h1, h2] <;> simp

/-- Minus infinity times anything is an infinity or zero. -/
theorem bot_mul_far (x : EReal) : ⊥ * x = ⊥ ∨ ⊥ * x = ⊤ ∨ ⊥ * x = 0 := by
  rcases lt_trichotomy x 0 with h | h | h
  · exact .inr (.inl (EReal.bot_mul_of_neg h))
  · exact .inr (.inr (by rw [h, mul_zero]))
  · exact .inl (EReal.bot_mul_of_pos h)

theorem div_zero_zero : Ideal.div 0 0 = ⊥ := by simp [Ideal.div]

theorem slope_pos : 0 < slope := by rw [slope_eq]; exact_mod_cast (by norm_num : (0 : ℝ) < 13421773 / 67108864)

/-- The kernel's average where no weight survives: an infinite score of the node itself, or no neighbour. -/
theorem avgK_far {ι : Type} [Fintype ι] {s D : EReal} {u v a : ι → EReal} (x : ι → EReal) (hD : IsReal D)
    (h : s = ⊥ ∨ s = ⊤ ∨ ∀ j, a j = 0) : avgK s D u v a x = ⊥ := by
  have hw : ∀ j, weightK s D (u j) (v j) (a j) = 0 := by
    intro j
    obtain ⟨D, rfl⟩ := hD
    unfold weightK
    rcases h with rfl | rfl | h
    · rw [EReal.bot_add, max_eq_right bot_le, EReal.mul_bot_of_pos slope_pos, EReal.bot_sub, Ideal.exp_bot, zero_mul, zero_mul,
        max_self, zero_mul]
    · rw [EReal.top_add_coe, max_eq_left le_top, EReal.mul_top_of_pos slope_pos, EReal.sub_top, Ideal.exp_bot, zero_mul, zero_mul,
        max_self, zero_mul]
    · rw [h j, mul_zero]
  unfold avgK
  simp only [hw, zero_mul, Finset.sum_const_zero, div_zero_zero]

/-- The plain average in the same case. -/
theorem avgR_far {ι : Type} [Fintype ι] {s : EReal} {d a : ι → EReal} (x : ι → EReal) (hd : ∀ j, IsReal (d j))
    (h : s = ⊥ ∨ s = ⊤ ∨ ∀ j, a j = 0) : avgR s d a x = ⊥ ∨ avgR s d a x = ⊤ ∨ avgR s d a x = 0 := by
  classical
  have he : ∀ j, Ideal.exp (scoreR s (d j) (a j) - topR s d a) = 0 := by
    intro j
    suffices hb : scoreR s (d j) (a j) - topR s d a = ⊥ by rw [hb, Ideal.exp_bot]
    by_cases hj : 0 < a j
    · rcases h with rfl | rfl | h
      · have hs : scoreR ⊥ (d j) (a j) = ⊥ := by
          unfold scoreR
          rw [if_pos hj, EReal.bot_add, EReal.mul_bot_of_pos slope_pos, ite_self]
        rw [hs, EReal.bot_sub]
      · have hs : scoreR ⊤ (d j) (a j) = ⊤ := by
          obtain ⟨r, hr⟩ := hd j
          unfold scoreR
          rw [if_pos hj, hr, EReal.top_add_coe, if_pos le_top]
        have ht : topR ⊤ d a = ⊤ := by
          unfold topR
          rw [max_eq_right bot_le]
          exact top_le_iff.mp ((Finset.le_fold_max _).mpr (.inr ⟨j, Finset.mem_univ j, hs.ge⟩))
        rw [ht, EReal.sub_top]
      · exact absurd hj (by rw [h j]; exact lt_irrefl _)
    · unfold scoreR
      rw [if_neg hj, EReal.bot_sub]
  unfold avgR
  simp only [he, Finset.sum_const_zero, zero_add, div_zero_zero]
  exact far_sum _ _ fun j => bot_mul_far (x j)

/-! ## The norm -/

/-- A feature divided by the norm of its row `h`, floored. -/
def unit {ι : Type} [Fintype ι] (h : ι → EReal) (k : ι) : EReal :=
  Ideal.div (h k) (max (Ideal.sqrt (∑ l, h l * h l)) tiny)

theorem unit_isReal {ι : Type} [Fintype ι] (h : ι → EReal) (hh : ∀ k, IsReal (h k)) (k : ι) : IsReal (unit h k) := by
  choose g hg using hh; obtain rfl : h = fun k => (g k : EReal) := funext hg
  obtain ⟨r, hr, h0⟩ := tiny_pos
  unfold unit
  simp only [← EReal.coe_mul]
  rw [coe_sum, Ideal.sqrt_coe, if_neg (not_lt.mpr (Finset.sum_nonneg fun i _ => mul_self_nonneg (g i))), hr, coe_max]
  exact ⟨_, div_coe_coe _ (lt_of_lt_of_le h0 (le_max_right _ _)).ne'⟩

/-- A row of infinities and zeros is zero once divided by its norm. -/
theorem unit_far {ι : Type} [Fintype ι] {h : ι → EReal} (hh : ∀ k, h k = ⊥ ∨ h k = ⊤ ∨ h k = 0) (k : ι) : unit h k = 0 := by
  obtain ⟨r, hr, h0⟩ := tiny_pos
  have hpos : ∀ y : EReal, max y tiny ≠ 0 := fun y =>
    (lt_of_lt_of_le (by rw [hr]; exact_mod_cast h0 : 0 < tiny) (le_max_right _ _)).ne'
  unfold unit
  rw [Ideal.div, if_neg (hpos _)]
  by_cases hk : h k = 0
  · rw [hk, zero_mul]
  · have hsq : h k * h k = ⊤ := by
      rcases hh k with e | e | e
      · rw [e]; rfl
      · rw [e]; rfl
      · exact absurd e hk
    have hnn : ∀ l, 0 ≤ h l * h l := by
      intro l
      rcases hh l with e | e | e
      · rw [e]; exact le_top
      · rw [e]; exact le_top
      · rw [e, zero_mul]
    have hsum : ∑ l, h l * h l = ⊤ :=
      top_le_iff.mp (hsq ▸ Finset.single_le_sum (f := fun l => h l * h l) (fun l _ => hnn l) (Finset.mem_univ k))
    rw [hsum, show Ideal.sqrt ⊤ = ⊤ from rfl, max_eq_left le_top, EReal.inv_top, mul_zero]

/-! ## Two tokens attending to one another -/

/-- The projection of a token by a weight matrix. -/
def proj (x : Fin 128 → EReal) (w : Fin 128 → Fin 128 → EReal) (k : Fin 128) : EReal := ∑ l, x l * w l k

/-- The score of one token against another, before scaling. -/
def score (x y : Fin 128 → EReal) (wq wk : Fin 128 → Fin 128 → EReal) : EReal := ∑ k, proj x wq k * proj y wk k

theorem proj_isReal {x : Fin 128 → EReal} {w : Fin 128 → Fin 128 → EReal} (hx : ∀ l, IsReal (x l))
    (hw : ∀ l k, IsReal (w l k)) (k : Fin 128) : IsReal (proj x w k) := IsReal.sum _ _ fun l => (hx l).mul (hw l k)

theorem score_isReal {x y : Fin 128 → EReal} {wq wk : Fin 128 → Fin 128 → EReal} (hx : ∀ l, IsReal (x l))
    (hy : ∀ l, IsReal (y l)) (hq : ∀ l k, IsReal (wq l k)) (hk : ∀ l k, IsReal (wk l k)) : IsReal (score x y wq wk) :=
  IsReal.sum _ _ fun k => (proj_isReal hx hq k).mul (proj_isReal hy hk k)

/-- The kernel's scale of a score: one over the square root of the width. -/
abbrev scaleK : EReal := Ideal.div (Ideal.ofBits .f32 0x3F800000#32) (Ideal.sqrt (Ideal.ofBits .f32 0x43000000#32))

theorem sqrt_width : ∃ r : ℝ, Ideal.sqrt (Ideal.ofBits .f32 0x43000000#32) = (r : EReal) ∧ 0 < r :=
  ⟨Real.sqrt 128, by rw [width_eq, Ideal.sqrt_coe, if_neg (by norm_num)], Real.sqrt_pos.mpr (by norm_num)⟩

theorem scale_eq (x : EReal) : x * scaleK = Ideal.div x (Ideal.sqrt (Ideal.ofBits .f32 0x43000000#32)) := by
  unfold scaleK
  rw [Ideal.ofBits_one_f32]
  obtain ⟨r, hr, h0⟩ := sqrt_width
  exact Ideal.mul_one_div (by rw [hr]; exact_mod_cast h0.ne')

/-- The kernel's output of one token: the softmax of its two scores against the two values, divided once. -/
def tokenK (y z v w : EReal) : EReal :=
  Ideal.div (Ideal.exp (y - max y z) * v + Ideal.exp (z - max y z) * w) (Ideal.exp (y - max y z) + Ideal.exp (z - max y z))

/-- The plain output of one token. -/
def tokenR (z : Fin 2 → EReal) (v : Fin 2 → EReal) : EReal :=
  ∑ b, Ideal.div (Ideal.exp (z b - max ⊥ (Finset.univ.fold max ⊥ z)))
    (0 + ∑ l, Ideal.exp (z l - max ⊥ (Finset.univ.fold max ⊥ z))) * v b

theorem fold_two (z : Fin 2 → EReal) : max ⊥ (Finset.univ.fold max ⊥ z) = max (z 0) (z 1) := by
  rw [max_eq_right bot_le, show (Finset.univ : Finset (Fin 2)) = {0, 1} from rfl,
    Finset.fold_insert (by decide), Finset.fold_singleton, max_eq_left (bot_le : ⊥ ≤ z 1)]

/-- A token's two outputs agree when its scores are finite, whatever the values are. -/
theorem token_eq {z : Fin 2 → EReal} (h : ∀ b, IsReal (z b)) (v : Fin 2 → EReal) :
    tokenK (z 0) (z 1) (v 0) (v 1) = tokenR z v := by
  unfold tokenK tokenR
  rw [fold_two]
  choose y hy using h; obtain rfl : z = fun b => (y b : EReal) := funext hy
  simp only [Fin.sum_univ_two, zero_add, coe_max, ← EReal.coe_sub, Ideal.exp_coe, ← EReal.coe_add]
  set p := Real.exp (y 0 - max (y 0) (y 1))
  set q := Real.exp (y 1 - max (y 0) (y 1))
  have hp : 0 < p := Real.exp_pos _
  have hq : 0 < q := Real.exp_pos _
  have h0 : p + q ≠ 0 := (add_pos hp hq).ne'
  rw [Ideal.div_coe h0, div_coe_coe _ h0, div_coe_coe _ h0, mul_comm,
    EReal.left_distrib_of_nonneg_of_ne_top (by exact_mod_cast (by positivity : (0 : ℝ) ≤ 1 / (p + q))) (EReal.coe_ne_top _),
    ← mul_assoc, ← mul_assoc, ← EReal.coe_mul, ← EReal.coe_mul, one_div_mul_eq_div, one_div_mul_eq_div]

/-- The mean of two outputs: half their sum, or their sum over two. -/
theorem mean_eq (x y : EReal) :
    Ideal.ofBits .f32 0x3F000000#32 * (x + y) = Ideal.div (0 + (x + y)) (Ideal.ofBits .f32 0x40000000#32) := by
  rw [half_eq, two_eq, Ideal.div_coe two_ne_zero, zero_add, mul_comm]

/-- The kernel's fused embedding of a node: `e` and `n` its two tokens. -/
def fusedK (e n : Fin 128 → EReal) (wq wk wv : Fin 128 → Fin 128 → EReal) (k : Fin 128) : EReal :=
  Ideal.ofBits .f32 0x3F000000#32 *
    (tokenK (score e e wq wk * scaleK) (score e n wq wk * scaleK) (proj e wv k) (proj n wv k)
      + tokenK (score n e wq wk * scaleK) (score n n wq wk * scaleK) (proj e wv k) (proj n wv k))

/-- Two rows as one family of tokens. -/
def pair (e n : Fin 128 → EReal) (b : Fin 2) : Fin 128 → EReal := if b = 0 then e else n

/-- The plain scaled scores. -/
def scoresR (t : Fin 2 → Fin 128 → EReal) (wq wk : Fin 128 → Fin 128 → EReal) (a b : Fin 2) : EReal :=
  Ideal.div (score (t a) (t b) wq wk) (Ideal.sqrt (Ideal.ofBits .f32 0x43000000#32))

/-- The plain fused embedding of a node with tokens `t`. -/
def fusedR (t : Fin 2 → Fin 128 → EReal) (wq wk wv : Fin 128 → Fin 128 → EReal) (k : Fin 128) : EReal :=
  Ideal.div (0 + ∑ a, tokenR (scoresR t wq wk a) (fun b => proj (t b) wv k)) (Ideal.ofBits .f32 0x40000000#32)

theorem fused_eq {e n : Fin 128 → EReal} {wq wk : Fin 128 → Fin 128 → EReal} (he : ∀ l, IsReal (e l))
    (hn : ∀ l, IsReal (n l)) (hq : ∀ l k, IsReal (wq l k)) (hk : ∀ l k, IsReal (wk l k))
    (wv : Fin 128 → Fin 128 → EReal) (k : Fin 128) : fusedK e n wq wk wv k = fusedR (pair e n) wq wk wv k := by
  have ht : ∀ b l, IsReal (pair e n b l) := fun b l => by unfold pair; split <;> [exact he l; exact hn l]
  have hz : ∀ a b, IsReal (scoresR (pair e n) wq wk a b) := by
    intro a b
    obtain ⟨r, hr, h0⟩ := sqrt_width
    unfold scoresR
    rw [hr]
    exact (score_isReal (ht a) (ht b) hq hk).div (isReal_coe r) (by exact_mod_cast h0.ne')
  unfold fusedK fusedR
  rw [Fin.sum_univ_two, ← mean_eq, ← token_eq (hz 0), ← token_eq (hz 1)]
  simp only [scale_eq]
  rfl

/-! ## A whole branch -/

/-- A node's transformed features. -/
def feat (E : Fin 10000 → Fin 128 → EReal) (G : Fin 128 → Fin 128 → EReal) (i : Fin 10000) (k : Fin 128) : EReal :=
  ∑ l, E i l * G l k

/-- A node's score along a direction `p`. -/
def along (E : Fin 10000 → Fin 128 → EReal) (G : Fin 128 → Fin 128 → EReal) (p : Fin 128 → EReal) (i : Fin 10000) : EReal :=
  ∑ k, feat E G i k * p k

/-- The largest neighbour score of all nodes. -/
def peak (E : Fin 10000 → Fin 128 → EReal) (G : Fin 128 → Fin 128 → EReal) (q : Fin 128 → EReal) : EReal :=
  Finset.univ.fold max ⊥ (along E G q)

/-- The kernel's neighbourhood average of a node's features. -/
def hoodK (A : Fin 10000 → Fin 10000 → EReal) (E : Fin 10000 → Fin 128 → EReal) (G : Fin 128 → Fin 128 → EReal)
    (p q : Fin 128 → EReal) (i : Fin 10000) (k : Fin 128) : EReal :=
  avgK (along E G p i) (peak E G q) (fun j => Ideal.exp (along E G q j)) (fun j => Ideal.exp (slope * along E G q j)) (A i)
    (fun j => feat E G j k)

/-- The plain neighbourhood average. -/
def hoodR (A : Fin 10000 → Fin 10000 → EReal) (E : Fin 10000 → Fin 128 → EReal) (G : Fin 128 → Fin 128 → EReal)
    (p q : Fin 128 → EReal) (i : Fin 10000) (k : Fin 128) : EReal :=
  avgR (along E G p i) (along E G q) (A i) (fun j => feat E G j k)

/-- The average of a node's relations. -/
def relMean (B : Fin 10000 → Fin 1000 → EReal) (T : Fin 1000 → Fin 128 → EReal) (i : Fin 10000) (k : Fin 128) : EReal :=
  Ideal.div (∑ r, B i r * T r k) (∑ r, B i r)

/-- Two halves of a row of 256 side by side. -/
def halves (f g : Fin 128 → EReal) (l : Fin 256) : EReal :=
  if h : (l : ℕ) < 128 then f ⟨l, h⟩ else g ⟨(l : ℕ) - 128, by omega⟩

/-- The kernel's row of the result. -/
def branchK (A : Fin 10000 → Fin 10000 → EReal) (E : Fin 10000 → Fin 128 → EReal) (B : Fin 10000 → Fin 1000 → EReal)
    (T : Fin 1000 → Fin 128 → EReal) (G : Fin 128 → Fin 128 → EReal) (p q : Fin 128 → EReal)
    (wq wk wv : Fin 128 → Fin 128 → EReal) (i : Fin 10000) : Fin 256 → EReal :=
  halves (fusedK (E i) (unit (hoodK A E G p q i)) wq wk wv) (relMean B T i)

/-- The plain row of the result. -/
def branchR (A : Fin 10000 → Fin 10000 → EReal) (E : Fin 10000 → Fin 128 → EReal) (B : Fin 10000 → Fin 1000 → EReal)
    (T : Fin 1000 → Fin 128 → EReal) (G : Fin 128 → Fin 128 → EReal) (p q : Fin 128 → EReal)
    (wq wk wv : Fin 128 → Fin 128 → EReal) (i : Fin 10000) : Fin 256 → EReal :=
  halves (fusedR (pair (E i) (unit (hoodR A E G p q i))) wq wk wv) (relMean B T i)

/-- Every row of the result is the same for the kernel and the plain mathematics, when the graph is unweighted, and the
    features and weights that enter the neighbours' and the tokens' scores are finite. -/
theorem branch_eq {A : Fin 10000 → Fin 10000 → EReal} {E : Fin 10000 → Fin 128 → EReal} (B : Fin 10000 → Fin 1000 → EReal)
    (T : Fin 1000 → Fin 128 → EReal) {G : Fin 128 → Fin 128 → EReal} (p : Fin 128 → EReal) {q : Fin 128 → EReal}
    {wq wk : Fin 128 → Fin 128 → EReal} (wv : Fin 128 → Fin 128 → EReal)
    (hA : ∀ i j, A i j = 0 ∨ A i j = 1) (hE : ∀ i l, IsReal (E i l)) (hG : ∀ l k, IsReal (G l k))
    (hq : ∀ k, IsReal (q k)) (hwq : ∀ l k, IsReal (wq l k)) (hwk : ∀ l k, IsReal (wk l k))
    (i : Fin 10000) : branchK A E B T G p q wq wk wv i = branchR A E B T G p q wq wk wv i := by
  have hF : ∀ i k, IsReal (feat E G i k) := fun i k => IsReal.sum _ _ fun l => (hE i l).mul (hG l k)
  have hQ : ∀ i, IsReal (along E G q i) := fun i => IsReal.sum _ _ fun k => (hF i k).mul (hq k)
  have hD : IsReal (peak E G q) :=
    IsReal.fold_max _ ⟨i, Finset.mem_univ i⟩ _ (fun j => Or.inr (hQ j)) ⟨i, Finset.mem_univ i, hQ i⟩
  have key : unit (hoodK A E G p q i) = unit (hoodR A E G p q i) ∧ ∀ k, IsReal (unit (hoodR A E G p q i) k) := by
    by_cases hf : along E G p i = ⊥ ∨ along E G p i = ⊤ ∨ ∀ j, A i j = 0
    · have hK : ∀ k, unit (hoodK A E G p q i) k = 0 := unit_far fun k => .inl (avgK_far _ hD hf)
      have hR : ∀ k, unit (hoodR A E G p q i) k = 0 := unit_far fun k => avgR_far _ hQ hf
      exact ⟨funext fun k => (hK k).trans (hR k).symm, fun k => ⟨0, hR k⟩⟩
    · have hP : IsReal (along E G p i) := by
        generalize along E G p i = s at hf
        induction s using EReal.rec with
        | bot => exact absurd (.inl rfl) hf
        | coe r => exact ⟨r, rfl⟩
        | top => exact absurd (.inr (.inl rfl)) hf
      have hN : ∃ j, A i j = 1 := by
        by_contra hn
        exact hf (.inr (.inr fun j => (hA i j).resolve_right fun h => hn ⟨j, h⟩))
      have hav := fun k => avg_eq hP hD hQ (fun j => hF j k) (hA i) hN
      exact ⟨congrArg unit (funext fun k => (hav k).1), unit_isReal _ fun k => (hav k).2⟩
  unfold branchK branchR
  rw [key.1, funext (fused_eq (hE i) key.2 hwq hwk wv)]

end Cert.Branch

end
-- ==== Proof.Payload.lean ====
/- What one grid step of the kernel's two bodies computes, at an index of a block, over the extended reals. -/
module

public import proofs.«01_k».proof.Proof.Gen.KernelIdeal.Skeleton
public import proofs.«01_k».proof.Proof.Scalar
public import Idealize.ShloMosaic.Lib.Pointwise

@[expose] public section

set_option maxRecDepth 16384

noncomputable section

namespace Cert.Branch.Payload

open Idealize.ShloMosaic Idealize.ShloMosaic.TcCoe Idealize.SL.Sem
open Cert.KernelIdeal Cert.KernelIdeal.Gen

/-! ## The first body: features and scores of all nodes -/

section Pre

variable (e : FVec Ideal S10000x128 .f32) (g : FVec Ideal S128x128 .bf16)

theorem feat_at (i : Fin 10000) (k : Fin 128) :
    k0_pay1 (F := Ideal) e g (ix2 i k) = feat (fun i l => e (ix2 i l)) (fun l k => g (ix2 l k)) i k := by
  unfold feat
  pointwise [k0_pay1]

theorem ext_at (i : Fin 10000) (k : Fin 129) :
    k0_pay2 (F := Ideal) e g (ix2 i k)
      = if h : (k : ℕ) < 128 then feat (fun i l => e (ix2 i l)) (fun l k => g (ix2 l k)) i ⟨k, h⟩ else 1 := by
  pointwise [k0_pay2, feat_at]

theorem src_at (p : FVec Ideal S128x1 .bf16) (i : Fin 10000) :
    k0_pay3 (F := Ideal) e g p (ix2 i 0)
      = along (fun i l => e (ix2 i l)) (fun l k => g (ix2 l k)) (fun k => p (ix2 k 0)) i := by
  unfold along
  pointwise [k0_pay3, feat_at]

theorem dst_at (q : FVec Ideal S1x128 .bf16) (j : Fin 10000) :
    k0_pay4 (F := Ideal) e g q (ix2 0 j)
      = along (fun i l => e (ix2 i l)) (fun l k => g (ix2 l k)) (fun k => q (ix2 0 k)) j := by
  unfold along
  pointwise [k0_pay4, feat_at]
  exact Finset.sum_congr rfl fun k _ => mul_comm _ _

theorem expdst_at (q : FVec Ideal S1x128 .bf16) (j : Fin 10000) :
    k0_pay5 (F := Ideal) e g q (ix2 0 j)
      = Ideal.exp (along (fun i l => e (ix2 i l)) (fun l k => g (ix2 l k)) (fun k => q (ix2 0 k)) j) := by
  pointwise [k0_pay5, dst_at]

theorem expdst2_at (q : FVec Ideal S1x128 .bf16) (j : Fin 10000) :
    k0_pay6 (F := Ideal) e g q (ix2 0 j)
      = Ideal.exp (slope * along (fun i l => e (ix2 i l)) (fun l k => g (ix2 l k)) (fun k => q (ix2 0 k)) j) := by
  pointwise [k0_pay6, dst_at]

theorem peak_at (q : FVec Ideal S1x128 .bf16) :
    k0_pay7 (F := Ideal) e g q (ix2 0 0)
      = peak (fun i l => e (ix2 i l)) (fun l k => g (ix2 l k)) (fun k => q (ix2 0 k)) := by
  unfold peak
  pointwise [k0_pay7, dst_at]
  rw [low_eq]

end Pre

/-! ## The second body: a block of 400 rows -/

section Main

variable (src : FVec Ideal S400x1 .f32) (top : FVec Ideal S1x1 .f32) (u v : FVec Ideal S1x10000 .f32)
  (x : FVec Ideal S10000x129 .bf16) (lo hi : FVec Ideal S200x10000 .f32) (e : FVec Ideal S400x128 .f32)
  (wq wk wv : FVec Ideal S128x128 .bf16)

/-- A block's rows of the graph: the first 200 from the one half, the others from the other. -/
def edges (i : Fin 400) (j : Fin 10000) : EReal :=
  if h : (i : ℕ) < 200 then lo (ix2 ⟨i, h⟩ j) else hi (ix2 ⟨(i : ℕ) - 200, by omega⟩ j)

theorem lower_at (i : Fin 200) (j : Fin 10000) :
    k1_pay10 (F := Ideal) src top u v lo (ix2 i j)
      = weightK (src (ix2 ⟨i, by omega⟩ 0)) (top (ix2 0 0)) (u (ix2 0 j)) (v (ix2 0 j)) (lo (ix2 i j)) := by
  unfold weightK
  pointwise [k1_pay10, k1_pay2, k1_pay3, k1_pay4, k1_pay5, k1_pay6, k1_pay7]

theorem upper_at (i : Fin 200) (j : Fin 10000) :
    k1_pay9 (F := Ideal) src top u v hi (ix2 i j)
      = weightK (src (ix2 ⟨200 + i, by omega⟩ 0)) (top (ix2 0 0)) (u (ix2 0 j)) (v (ix2 0 j)) (hi (ix2 i j)) := by
  unfold weightK
  pointwise [k1_pay9, k1_pay2, k1_pay3, k1_pay4, k1_pay5, k1_pay6, k1_pay7]

/-- The block's neighbourhood averages, each divided by its row's norm. -/
theorem unit_at (hx : ∀ j, x (ix2 j 128) = 1) (i : Fin 400) (k : Fin 128) :
    k1_pay12 (F := Ideal) (k1_pay8 (F := Ideal) x) (k1_pay9 (F := Ideal) src top u v hi) (k1_pay10 (F := Ideal) src top u v lo) (ix2 i k)
      = unit (fun k : Fin 128 => avgK (src (ix2 i 0)) (top (ix2 0 0)) (fun j => u (ix2 0 j)) (fun j => v (ix2 0 j)) (edges lo hi i)
          (fun j => x (ix2 j ⟨k, by omega⟩))) k := by
  unfold unit avgK edges
  pointwise [k1_pay12, k1_pay8, lower_at, upper_at]
  by_cases h : (i : ℕ) < 200
  · simp only [dif_pos h, hx, mul_one]
  · have h2 : (⟨200 + ((i : ℕ) - 200), by omega⟩ : Fin 400) = i := Fin.ext (by simp only; omega)
    simp only [dif_neg h, hx, mul_one, h2]

theorem relSum_at (b : FVec Ideal S400x1000 .f32) (i : Fin 400) :
    k1_pay26 (F := Ideal) b (ix2 i 0) = ∑ r : Fin 1000, b (ix2 i r) := by
  pointwise [k1_pay26]

theorem relDot_at (b : FVec Ideal S400x1000 .f32) (t : FVec Ideal S1000x128 .bf16) (i : Fin 400) (k : Fin 128) :
    k1_pay27 (F := Ideal) b t (ix2 i k) = ∑ r : Fin 1000, b (ix2 i r) * t (ix2 r k) := by
  pointwise [k1_pay27]

theorem joined_at (f : FVec Ideal S400x128 .f32) (s : FVec Ideal S400x1 .f32) (d : FVec Ideal S400x128 .f32) (i : Fin 400) (l : Fin 256) :
    k1_pay1 (F := Ideal) f s d (ix2 i l) = halves (fun k => f (ix2 i k)) (fun k => Ideal.div (d (ix2 i k)) (s (ix2 i 0))) l := by
  unfold halves
  pointwise [k1_pay1]

end Main

theorem scale_at : k1_pay22 (F := Ideal) = scaleK := rfl

/-- The block's fused embeddings, from its two tokens `e` and `n` (`n` whatever array the step made of it). -/
theorem fused_at (x : FVec Ideal S10000x129 .bf16) (hi : FVec Ideal S200x10000 .f32) (lo : FVec Ideal S200x10000 .bf16)
    (e : FVec Ideal S400x128 .f32) (wq wk wv : FVec Ideal S128x128 .bf16) (i : Fin 400) (k : Fin 128) :
    k1_pay25 (F := Ideal) (k1_pay17 x hi lo wq) (k1_pay18 e wk) (k1_pay19 x hi lo wk) (k1_pay20 e wv) (k1_pay21 x hi lo wv) k1_pay22
        (k1_pay23 e wq wk) (k1_pay24 x hi lo e wq wk) (ix2 i k)
      = fusedK (fun l => e (ix2 i l)) (fun l => k1_pay12 (F := Ideal) x hi lo (ix2 i l)) (fun l k => wq (ix2 l k)) (fun l k => wk (ix2 l k))
          (fun l k => wv (ix2 l k)) k := by
  unfold fusedK tokenK score proj
  pointwise [k1_pay25, k1_pay17, k1_pay18, k1_pay19, k1_pay20, k1_pay21, scale_at, k1_pay23, k1_pay24, k1_pay16, k1_pay11, k1_pay13,
    k1_pay14, k1_pay15]

/-- A row of the second body's block: both tokens fused, beside the relation mean. -/
theorem row_at (src : FVec Ideal S400x1 .f32) (top : FVec Ideal S1x1 .f32) (u v : FVec Ideal S1x10000 .f32)
    (x : FVec Ideal S10000x129 .bf16) (lo hi : FVec Ideal S200x10000 .f32) (e : FVec Ideal S400x128 .f32)
    (wq wk wv : FVec Ideal S128x128 .bf16) (b : FVec Ideal S400x1000 .f32) (t : FVec Ideal S1000x128 .bf16)
    (hx : ∀ j, x (ix2 j 128) = 1) (i : Fin 400) (l : Fin 256) :
    k1_pay1 (F := Ideal)
        (k1_pay25
          (k1_pay17 (k1_pay8 x) (k1_pay9 src top u v hi) (k1_pay10 src top u v lo) wq) (k1_pay18 e wk)
          (k1_pay19 (k1_pay8 x) (k1_pay9 src top u v hi) (k1_pay10 src top u v lo) wk) (k1_pay20 e wv)
          (k1_pay21 (k1_pay8 x) (k1_pay9 src top u v hi) (k1_pay10 src top u v lo) wv) k1_pay22
          (k1_pay23 e wq wk) (k1_pay24 (k1_pay8 x) (k1_pay9 src top u v hi) (k1_pay10 src top u v lo) e wq wk))
        (k1_pay26 b) (k1_pay27 b t) (ix2 i l)
      = halves
          (fusedK (fun l => e (ix2 i l))
            (unit fun k : Fin 128 => avgK (src (ix2 i 0)) (top (ix2 0 0)) (fun j => u (ix2 0 j)) (fun j => v (ix2 0 j)) (edges lo hi i)
              (fun j => x (ix2 j ⟨k, by omega⟩)))
            (fun l k => wq (ix2 l k)) (fun l k => wk (ix2 l k)) (fun l k => wv (ix2 l k)))
          (fun k => Ideal.div (∑ r : Fin 1000, b (ix2 i r) * t (ix2 r k)) (∑ r : Fin 1000, b (ix2 i r))) l := by
  refine (joined_at _ _ _ i l).trans ?_
  congr 1
  · funext k
    refine (fused_at _ _ _ e wq wk wv i k).trans ?_
    congr 1
    funext l
    exact unit_at src top u v x lo hi hx i l
  · funext k
    rw [relSum_at, relDot_at]

end Cert.Branch.Payload

end
-- ==== Proof.Regions.lean ====
/- What the kernel's first two grids (the source graph's) leave in their result arrays, from the arrays they read. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.Branch.Regions

open Idealize.ShloMosaic Idealize.ShloMosaic.TcCoe Idealize.SL.Sem
open Idealize.ShloMosaic.Pipeline (Dat)
open Cert.KernelIdeal Cert.KernelIdeal.Gen
open Cert.Branch.Payload (edges row_at)

variable (V : (c : Dev nD) → (b : Ref sig .tc) → Buf (Elt Ideal) ((c : Thread nD τ).loc b))

/-! ## Features and scores of all nodes: one step, whole arrays -/

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem ext0 (c : Dev nD) : (dat0 V c).arrAt 4 cfg0.N = k0_pay2 (F := Ideal) (V c main_arg4) (V c main_v0) := by
  refine (dat0 V c).arrAt_eq_of_after_last 4 t0_0 (by decide +kernel) _ fun j => ?_
  blk_simp; rw [after0_4]; frame_out
  blk_point [iblk0, idx0 t0_0]

theorem src0 (c : Dev nD) : (dat0 V c).arrAt 5 cfg0.N = k0_pay3 (F := Ideal) (V c main_arg4) (V c main_v0) (V c main_v2) := by
  refine (dat0 V c).arrAt_eq_of_after_last 5 t0_0 (by decide +kernel) _ fun j => ?_
  blk_simp; rw [after0_5]; frame_out
  blk_point [iblk0, idx0 t0_0]

theorem expdst0 (c : Dev nD) : (dat0 V c).arrAt 6 cfg0.N = k0_pay5 (F := Ideal) (V c main_arg4) (V c main_v0) (V c main_v4) := by
  refine (dat0 V c).arrAt_eq_of_after_last 6 t0_0 (by decide +kernel) _ fun j => ?_
  blk_simp; rw [after0_6]; frame_out
  blk_point [iblk0, idx0 t0_0]

theorem expdstSlope0 (c : Dev nD) : (dat0 V c).arrAt 7 cfg0.N = k0_pay6 (F := Ideal) (V c main_arg4) (V c main_v0) (V c main_v4) := by
  refine (dat0 V c).arrAt_eq_of_after_last 7 t0_0 (by decide +kernel) _ fun j => ?_
  blk_simp; rw [after0_7]; frame_out
  blk_point [iblk0, idx0 t0_0]

theorem peak0 (c : Dev nD) : (dat0 V c).arrAt 8 cfg0.N = k0_pay7 (F := Ideal) (V c main_arg4) (V c main_v0) (V c main_v4) := by
  refine (dat0 V c).arrAt_eq_of_after_last 8 t0_0 (by decide +kernel) _ fun j => ?_
  blk_simp; rw [after0_8]; frame_out
  blk_point [iblk0, idx0 t0_0]

/-! ## The rows of the result: blocks of 400 -/

/-- The result's rows, from the graph `A`, the embeddings `E`, the scores and features of all nodes, the relation graph `B` with its
embeddings `T`, and the fusion's weights. -/
def rows (A : FVec Ideal S10000x10000 .f32) (E : FVec Ideal S10000x128 .f32) (src : FVec Ideal S10000x1 .f32)
    (B : FVec Ideal S10000x1000 .f32) (x : FVec Ideal S10000x129 .bf16) (u v : FVec Ideal S1x10000 .f32) (top : FVec Ideal S1x1 .f32)
    (T : FVec Ideal S1000x128 .bf16) (wq wk wv : FVec Ideal S128x128 .bf16) : FVec Ideal S10000x256 .f32 := fun y =>
  halves
    (fusedK (fun l => E (ix2 (y 0) l))
      (unit fun k : Fin 128 => avgK (src (ix2 (y 0) 0)) (top (ix2 0 0)) (fun j => u (ix2 0 j)) (fun j => v (ix2 0 j))
        (fun j => A (ix2 (y 0) j)) (fun j => x (ix2 j ⟨k, by omega⟩)))
      (fun l k => wq (ix2 l k)) (fun l k => wk (ix2 l k)) (fun l k => wv (ix2 l k)))
    (relMean (fun i r => B (ix2 i r)) (fun r k => T (ix2 r k)) (y 0)) (y 1)

/-- A block's row is the arrays' row `a`, when the block's pieces are read there and the other arrays whole. -/
theorem block_row (A : FVec Ideal S10000x10000 .f32) (E : FVec Ideal S10000x128 .f32) (src : FVec Ideal S10000x1 .f32)
    (B : FVec Ideal S10000x1000 .f32) (x : FVec Ideal S10000x129 .bf16) (u v : FVec Ideal S1x10000 .f32) (top : FVec Ideal S1x1 .f32)
    (T : FVec Ideal S1000x128 .bf16) (wq wk wv : FVec Ideal S128x128 .bf16)
    (lo hi : FVec Ideal S200x10000 .f32) (e : FVec Ideal S400x128 .f32) (s : FVec Ideal S400x1 .f32) (b : FVec Ideal S400x1000 .f32)
    {x' : FVec Ideal S10000x129 .bf16} {u' v' : FVec Ideal S1x10000 .f32} {top' : FVec Ideal S1x1 .f32}
    {T' : FVec Ideal S1000x128 .bf16} {wq' wk' wv' : FVec Ideal S128x128 .bf16}
    (ex : x' = x) (eu : u' = u) (ev : v' = v) (et : top' = top) (eT : T' = T) (eq : wq' = wq) (ek : wk' = wk) (ew : wv' = wv)
    (hx : ∀ j, x (ix2 j 128) = 1) (z : S10000x256.Idx) (a : Fin 10000) (i : Fin 400) (l : Fin 256) (hz : z = ix2 a l)
    (hA : ∀ j, edges lo hi i j = A (ix2 a j)) (hE : ∀ l, e (ix2 i l) = E (ix2 a l))
    (hs : s (ix2 i 0) = src (ix2 a 0)) (hB : ∀ r, b (ix2 i r) = B (ix2 a r)) :
    k1_pay1 (F := Ideal)
        (k1_pay25
          (k1_pay17 (k1_pay8 x') (k1_pay9 s top' u' v' hi) (k1_pay10 s top' u' v' lo) wq') (k1_pay18 e wk')
          (k1_pay19 (k1_pay8 x') (k1_pay9 s top' u' v' hi) (k1_pay10 s top' u' v' lo) wk') (k1_pay20 e wv')
          (k1_pay21 (k1_pay8 x') (k1_pay9 s top' u' v' hi) (k1_pay10 s top' u' v' lo) wv') k1_pay22
          (k1_pay23 e wq' wk') (k1_pay24 (k1_pay8 x') (k1_pay9 s top' u' v' hi) (k1_pay10 s top' u' v' lo) e wq' wk'))
        (k1_pay26 b) (k1_pay27 b T') (ix2 i l)
      = rows A E src B x u v top T wq wk wv z := by
  subst ex eu ev et eT eq ek ew hz
  refine (row_at s top' u' v' x' lo hi e wq' wk' wv' b T' hx i l).trans ?_
  have hr : rows A E src B x' u' v' top' T' wq' wk' wv' (ix2 a l)
      = halves
          (fusedK (fun l => E (ix2 a l))
            (unit fun k : Fin 128 => avgK (src (ix2 a 0)) (top' (ix2 0 0)) (fun j => u' (ix2 0 j)) (fun j => v' (ix2 0 j))
              (fun j => A (ix2 a j)) (fun j => x' (ix2 j ⟨k, by omega⟩)))
            (fun l k => wq' (ix2 l k)) (fun l k => wk' (ix2 l k)) (fun l k => wv' (ix2 l k)))
          (relMean (fun i r => B (ix2 i r)) (fun r k => T' (ix2 r k)) a) l := rfl
  rw [hr, funext hA, funext hE, hs]
  unfold relMean
  simp only [hB]

theorem idx1 : ∀ t : Fin cfg1.N, win1_0.index t = ![2 * t.val, 0]
    ∧ win1_1.index t = ![2 * t.val + 1, 0]
    ∧ win1_2.index t = ![t.val, 0]
    ∧ win1_3.index t = ![t.val, 0]
    ∧ win1_4.index t = ![t.val, 0]
    ∧ win1_5.index t = ![0, 0]
    ∧ win1_6.index t = ![0, 0]
    ∧ win1_7.index t = ![0, 0]
    ∧ win1_8.index t = ![0, 0]
    ∧ win1_9.index t = ![0, 0]
    ∧ win1_10.index t = ![0, 0]
    ∧ win1_11.index t = ![0, 0]
    ∧ win1_12.index t = ![0, 0]
    ∧ win1_13.index t = ![t.val, 0] ∧ t.val < 25 :=
  (by decide +kernel : ∀ t : Fin grid1.N, _)

theorem whole1_5 (c : Dev nD) (t : Fin cfg1.N) : iblk1 V c 5 t = V c main_v9_0 := by
  blk_ext! [iblk1, idx1 t]

theorem whole1_6 (c : Dev nD) (t : Fin cfg1.N) : iblk1 V c 6 t = V c main_v9_2 := by
  blk_ext! [iblk1, idx1 t]

theorem whole1_7 (c : Dev nD) (t : Fin cfg1.N) : iblk1 V c 7 t = V c main_v9_3 := by
  blk_ext! [iblk1, idx1 t]

theorem whole1_8 (c : Dev nD) (t : Fin cfg1.N) : iblk1 V c 8 t = V c main_v9_4 := by
  blk_ext! [iblk1, idx1 t]

theorem whole1_9 (c : Dev nD) (t : Fin cfg1.N) : iblk1 V c 9 t = V c main_v8 := by
  blk_ext! [iblk1, idx1 t]

theorem whole1_10 (c : Dev nD) (t : Fin cfg1.N) : iblk1 V c 10 t = V c main_v5 := by
  blk_ext! [iblk1, idx1 t]

theorem whole1_11 (c : Dev nD) (t : Fin cfg1.N) : iblk1 V c 11 t = V c main_v6 := by
  blk_ext! [iblk1, idx1 t]

theorem whole1_12 (c : Dev nD) (t : Fin cfg1.N) : iblk1 V c 12 t = V c main_v7 := by
  blk_ext! [iblk1, idx1 t]

theorem rows1 (c : Dev nD) (hx : ∀ j, V c main_v9_0 (ix2 j 128) = (1 : EReal)) :
    (dat1 V c).arrAt 13 cfg1.N
      = rows (V c main_arg0) (V c main_arg4) (V c main_v9_1) (V c main_arg2) (V c main_v9_0) (V c main_v9_2) (V c main_v9_3) (V c main_v9_4) (V c main_v8) (V c main_v5) (V c main_v6) (V c main_v7) := by
  refine (dat1 V c).arrAt_eq_of_covers 13 _ (by decide +kernel) fun t _ y => ?_
  blk_simp
  rw [after1_13]
  unfold_out out1_13
  frame_out
  obtain ⟨i, l, rfl⟩ : ∃ (i : Fin 400) (l : Fin 256), y = ix2 i l := ⟨y 0, y 1, eq_ix2 y⟩
  have ht : t.val < 25 := lt_of_lt_of_eq t.isLt N_1
  refine block_row _ _ _ _ _ _ _ _ _ _ _ _ _ _ _ _ _ (whole1_5 V c t) (whole1_6 V c t) (whole1_7 V c t) (whole1_8 V c t)
    (whole1_9 V c t) (whole1_10 V c t) (whole1_11 V c t) (whole1_12 V c t) hx _ ⟨400 * t.val + i, by omega⟩ i l ?_ ?_ ?_ ?_ ?_
  · blk_ext [idx1 t]
  · intro j
    unfold edges
    split
    · blk_ext [iblk1, idx1 t]
    · blk_ext [iblk1, idx1 t]
  · intro k; blk_ext [iblk1, idx1 t]
  · blk_ext [iblk1, idx1 t]
  · intro r; blk_ext [iblk1, idx1 t]

end Cert.Branch.Regions

end
-- ==== Proof.Second.lean ====
/- What the kernel's last two grids (the target graph's) leave in their result arrays, from the arrays they read. -/
module

public import proofs.«01_k».proof.Proof.Gen.KernelIdeal.Frame
public import proofs.«01_k».proof.Proof.Regions
public import Idealize.ShloMosaic.Lib.Pipeline.ValueKit

@[expose] public section

set_option maxRecDepth 16384

noncomputable section

namespace Cert.Branch.Regions

open Idealize.ShloMosaic Idealize.ShloMosaic.TcCoe Idealize.SL.Sem
open Idealize.ShloMosaic.Pipeline (Dat)
open Cert.KernelIdeal Cert.KernelIdeal.Gen
open Cert.Branch.Payload (edges)

variable (V : (c : Dev nD) → (b : Ref sig .tc) → Buf (Elt Ideal) ((c : Thread nD τ).loc b))

/-! ## The target graph's grids compute the same functions -/

theorem pay2_2 : @k2_pay2 = @k0_pay2 := rfl
theorem pay2_3 : @k2_pay3 = @k0_pay3 := rfl
theorem pay2_5 : @k2_pay5 = @k0_pay5 := rfl
theorem pay2_6 : @k2_pay6 = @k0_pay6 := rfl
theorem pay2_7 : @k2_pay7 = @k0_pay7 := rfl
theorem pay3_1 : @k3_pay1 = @k1_pay1 := rfl
theorem pay3_8 : @k3_pay8 = @k1_pay8 := rfl
theorem pay3_9 : @k3_pay9 = @k1_pay9 := rfl
theorem pay3_10 : @k3_pay10 = @k1_pay10 := rfl
theorem pay3_17 : @k3_pay17 = @k1_pay17 := rfl
theorem pay3_18 : @k3_pay18 = @k1_pay18 := rfl
theorem pay3_19 : @k3_pay19 = @k1_pay19 := rfl
theorem pay3_20 : @k3_pay20 = @k1_pay20 := rfl
theorem pay3_21 : @k3_pay21 = @k1_pay21 := rfl
theorem pay3_22 : @k3_pay22 = @k1_pay22 := rfl
theorem pay3_23 : @k3_pay23 = @k1_pay23 := rfl
theorem pay3_24 : @k3_pay24 = @k1_pay24 := rfl
theorem pay3_25 : @k3_pay25 = @k1_pay25 := rfl
theorem pay3_26 : @k3_pay26 = @k1_pay26 := rfl
theorem pay3_27 : @k3_pay27 = @k1_pay27 := rfl

/-! ## Features and scores of all nodes: one step, whole arrays -/

theorem idx2 : ∀ t : Fin cfg2.N, win2_0.index t = ![0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![0, 0] :=
  (by decide +kernel : ∀ t : Fin grid2.N, _)

theorem ext2 (c : Dev nD) : (dat2 V c).arrAt 4 cfg2.N = k0_pay2 (F := Ideal) (V c main_arg5) (V c main_v0) := by
  refine (dat2 V c).arrAt_eq_of_after_last 4 t2_0 (by decide +kernel) _ fun j => ?_
  blk_simp; rw [after2_4]; frame_out; rw [pay2_2]
  blk_point [iblk2, idx2 t2_0]

theorem src2 (c : Dev nD) : (dat2 V c).arrAt 5 cfg2.N = k0_pay3 (F := Ideal) (V c main_arg5) (V c main_v0) (V c main_v2) := by
  refine (dat2 V c).arrAt_eq_of_after_last 5 t2_0 (by decide +kernel) _ fun j => ?_
  blk_simp; rw [after2_5]; frame_out; rw [pay2_3]
  blk_point [iblk2, idx2 t2_0]

theorem expdst2 (c : Dev nD) : (dat2 V c).arrAt 6 cfg2.N = k0_pay5 (F := Ideal) (V c main_arg5) (V c main_v0) (V c main_v4) := by
  refine (dat2 V c).arrAt_eq_of_after_last 6 t2_0 (by decide +kernel) _ fun j => ?_
  blk_simp; rw [after2_6]; frame_out; rw [pay2_5]
  blk_point [iblk2, idx2 t2_0]

theorem expdstSlope2 (c : Dev nD) : (dat2 V c).arrAt 7 cfg2.N = k0_pay6 (F := Ideal) (V c main_arg5) (V c main_v0) (V c main_v4) := by
  refine (dat2 V c).arrAt_eq_of_after_last 7 t2_0 (by decide +kernel) _ fun j => ?_
  blk_simp; rw [after2_7]; frame_out; rw [pay2_6]
  blk_point [iblk2, idx2 t2_0]

theorem peak2 (c : Dev nD) : (dat2 V c).arrAt 8 cfg2.N = k0_pay7 (F := Ideal) (V c main_arg5) (V c main_v0) (V c main_v4) := by
  refine (dat2 V c).arrAt_eq_of_after_last 8 t2_0 (by decide +kernel) _ fun j => ?_
  blk_simp; rw [after2_8]; frame_out; rw [pay2_7]
  blk_point [iblk2, idx2 t2_0]

/-! ## The rows of the result: blocks of 400 -/

/-- A block's row of the target graph is the arrays' row `a`, when the block's pieces are read there and the other arrays whole. -/
theorem block_row3 (A : FVec Ideal S10000x10000 .f32) (E : FVec Ideal S10000x128 .f32) (src : FVec Ideal S10000x1 .f32)
    (B : FVec Ideal S10000x1000 .f32) (x : FVec Ideal S10000x129 .bf16) (u v : FVec Ideal S1x10000 .f32) (top : FVec Ideal S1x1 .f32)
    (T : FVec Ideal S1000x128 .bf16) (wq wk wv : FVec Ideal S128x128 .bf16)
    (lo hi : FVec Ideal S200x10000 .f32) (e : FVec Ideal S400x128 .f32) (s : FVec Ideal S400x1 .f32) (b : FVec Ideal S400x1000 .f32)
    {x' : FVec Ideal S10000x129 .bf16} {u' v' : FVec Ideal S1x10000 .f32} {top' : FVec Ideal S1x1 .f32}
    {T' : FVec Ideal S1000x128 .bf16} {wq' wk' wv' : FVec Ideal S128x128 .bf16}
    (ex : x' = x) (eu : u' = u) (ev : v' = v) (et : top' = top) (eT : T' = T) (eq : wq' = wq) (ek : wk' = wk) (ew : wv' = wv)
    (hx : ∀ j, x (ix2 j 128) = 1) (z : S10000x256.Idx) (a : Fin 10000) (i : Fin 400) (l : Fin 256) (hz : z = ix2 a l)
    (hA : ∀ j, edges lo hi i j = A (ix2 a j)) (hE : ∀ l, e (ix2 i l) = E (ix2 a l))
    (hs : s (ix2 i 0) = src (ix2 a 0)) (hB : ∀ r, b (ix2 i r) = B (ix2 a r)) :
    k3_pay1 (F := Ideal)
        (k3_pay25
          (k3_pay17 (k3_pay8 x') (k3_pay9 s top' u' v' hi) (k3_pay10 s top' u' v' lo) wq') (k3_pay18 e wk')
          (k3_pay19 (k3_pay8 x') (k3_pay9 s top' u' v' hi) (k3_pay10 s top' u' v' lo) wk') (k3_pay20 e wv')
          (k3_pay21 (k3_pay8 x') (k3_pay9 s top' u' v' hi) (k3_pay10 s top' u' v' lo) wv') k3_pay22
          (k3_pay23 e wq' wk') (k3_pay24 (k3_pay8 x') (k3_pay9 s top' u' v' hi) (k3_pay10 s top' u' v' lo) e wq' wk'))
        (k3_pay26 b) (k3_pay27 b T') (ix2 i l)
      = rows A E src B x u v top T wq wk wv z := by
  rw [pay3_1, pay3_8, pay3_9, pay3_10, pay3_17, pay3_18, pay3_19, pay3_20, pay3_21, pay3_22, pay3_23, pay3_24, pay3_25, pay3_26, pay3_27]
  exact block_row A E src B x u v top T wq wk wv lo hi e s b ex eu ev et eT eq ek ew hx z a i l hz hA hE hs hB

theorem idx3 : ∀ t : Fin cfg3.N, win3_0.index t = ![2 * t.val, 0]
    ∧ win3_1.index t = ![2 * t.val + 1, 0]
    ∧ win3_2.index t = ![t.val, 0]
    ∧ win3_3.index t = ![t.val, 0]
    ∧ win3_4.index t = ![t.val, 0]
    ∧ win3_5.index t = ![0, 0]
    ∧ win3_6.index t = ![0, 0]
    ∧ win3_7.index t = ![0, 0]
    ∧ win3_8.index t = ![0, 0]
    ∧ win3_9.index t = ![0, 0]
    ∧ win3_10.index t = ![0, 0]
    ∧ win3_11.index t = ![0, 0]
    ∧ win3_12.index t = ![0, 0]
    ∧ win3_13.index t = ![t.val, 0] ∧ t.val < 25 :=
  (by decide +kernel : ∀ t : Fin grid3.N, _)

theorem whole3_5 (c : Dev nD) (t : Fin cfg3.N) : iblk3 V c 5 t = V c main_v12_0 := by
  blk_ext! [iblk3, idx3 t]

theorem whole3_6 (c : Dev nD) (t : Fin cfg3.N) : iblk3 V c 6 t = V c main_v12_2 := by
  blk_ext! [iblk3, idx3 t]

theorem whole3_7 (c : Dev nD) (t : Fin cfg3.N) : iblk3 V c 7 t = V c main_v12_3 := by
  blk_ext! [iblk3, idx3 t]

theorem whole3_8 (c : Dev nD) (t : Fin cfg3.N) : iblk3 V c 8 t = V c main_v12_4 := by
  blk_ext! [iblk3, idx3 t]

theorem whole3_9 (c : Dev nD) (t : Fin cfg3.N) : iblk3 V c 9 t = V c main_v11 := by
  blk_ext! [iblk3, idx3 t]

theorem whole3_10 (c : Dev nD) (t : Fin cfg3.N) : iblk3 V c 10 t = V c main_v5 := by
  blk_ext! [iblk3, idx3 t]

theorem whole3_11 (c : Dev nD) (t : Fin cfg3.N) : iblk3 V c 11 t = V c main_v6 := by
  blk_ext! [iblk3, idx3 t]

theorem whole3_12 (c : Dev nD) (t : Fin cfg3.N) : iblk3 V c 12 t = V c main_v7 := by
  blk_ext! [iblk3, idx3 t]

theorem rows3 (c : Dev nD) (hx : ∀ j, V c main_v12_0 (ix2 j 128) = (1 : EReal)) :
    (dat3 V c).arrAt 13 cfg3.N
      = rows (V c main_arg1) (V c main_arg5) (V c main_v12_1) (V c main_arg3) (V c main_v12_0) (V c main_v12_2) (V c main_v12_3) (V c main_v12_4) (V c main_v11) (V c main_v5) (V c main_v6) (V c main_v7) := by
  refine (dat3 V c).arrAt_eq_of_covers 13 _ (by decide +kernel) fun t _ y => ?_
  blk_simp
  rw [after3_13]
  unfold_out out3_13
  frame_out
  obtain ⟨i, l, rfl⟩ : ∃ (i : Fin 400) (l : Fin 256), y = ix2 i l := ⟨y 0, y 1, eq_ix2 y⟩
  have ht : t.val < 25 := lt_of_lt_of_eq t.isLt N_3
  refine block_row3 _ _ _ _ _ _ _ _ _ _ _ _ _ _ _ _ _ (whole3_5 V c t) (whole3_6 V c t) (whole3_7 V c t) (whole3_8 V c t)
    (whole3_9 V c t) (whole3_10 V c t) (whole3_11 V c t) (whole3_12 V c t) hx _ ⟨400 * t.val + i, by omega⟩ i l ?_ ?_ ?_ ?_ ?_
  · blk_ext [idx3 t]
  · intro j
    unfold edges
    split
    · blk_ext [iblk3, idx3 t]
    · blk_ext [iblk3, idx3 t]
  · intro k; blk_ext [iblk3, idx3 t]
  · blk_ext [iblk3, idx3 t]
  · intro r; blk_ext [iblk3, idx3 t]

end Cert.Branch.Regions

end
-- ==== Proof.Chain.lean ====
/- The kernel's two result arrays, from its arguments. -/
module

public import proofs.«01_k».proof.Proof.Second

@[expose] public section

set_option maxRecDepth 16384

noncomputable section

namespace Cert.Branch.Chain

open Idealize.ShloMosaic Idealize.ShloMosaic.TcCoe Idealize.SL.Sem
open Cert.KernelIdeal Cert.KernelIdeal.Gen Cert.Branch.Regions Cert.Branch.Payload

/-- The rows over the first body's results are a whole branch of the kernel. -/
theorem rows_branch (A : FVec Ideal S10000x10000 .f32) (E : FVec Ideal S10000x128 .f32) (B : FVec Ideal S10000x1000 .f32)
    (T : FVec Ideal S1000x128 .bf16) (g : FVec Ideal S128x128 .bf16) (p : FVec Ideal S128x1 .bf16) (q : FVec Ideal S1x128 .bf16)
    (wq wk wv : FVec Ideal S128x128 .bf16) {T' : Fin 1000 → Fin 128 → EReal} {g' wq' wk' wv' : Fin 128 → Fin 128 → EReal}
    {p' q' : Fin 128 → EReal} (hT : ∀ r k, T (ix2 r k) = T' r k) (hg : ∀ l k, g (ix2 l k) = g' l k) (hp : ∀ k, p (ix2 k 0) = p' k)
    (hq : ∀ k, q (ix2 0 k) = q' k) (hwq : ∀ l k, wq (ix2 l k) = wq' l k) (hwk : ∀ l k, wk (ix2 l k) = wk' l k)
    (hwv : ∀ l k, wv (ix2 l k) = wv' l k) (i : Fin 10000) (l : Fin 256) :
    rows A E (k0_pay3 (F := Ideal) E g p) B (k0_pay2 (F := Ideal) E g) (k0_pay5 (F := Ideal) E g q) (k0_pay6 (F := Ideal) E g q)
        (k0_pay7 (F := Ideal) E g q) T wq wk wv (ix2 i l)
      = branchK (fun i j => A (ix2 i j)) (fun i l => E (ix2 i l)) (fun i r => B (ix2 i r)) T' g' p' q' wq' wk' wv' i l := by
  obtain rfl : (fun r k => T (ix2 r k)) = T' := funext fun r => funext (hT r)
  obtain rfl : (fun l k => g (ix2 l k)) = g' := funext fun l => funext (hg l)
  obtain rfl : (fun k => p (ix2 k 0)) = p' := funext hp
  obtain rfl : (fun k => q (ix2 0 k)) = q' := funext hq
  obtain rfl : (fun l k => wq (ix2 l k)) = wq' := funext fun l => funext (hwq l)
  obtain rfl : (fun l k => wk (ix2 l k)) = wk' := funext fun l => funext (hwk l)
  obtain rfl : (fun l k => wv (ix2 l k)) = wv' := funext fun l => funext (hwv l)
  have h : ∀ k : Fin 128, (fun j => k0_pay2 (F := Ideal) E g (ix2 j ⟨k, by omega⟩))
      = fun j => feat (fun i l => E (ix2 i l)) (fun l k => g (ix2 l k)) j k := fun k => funext fun j => by
    rw [ext_at, dif_pos k.isLt]
  have hr : ∀ (s : FVec Ideal S10000x1 .f32) (x : FVec Ideal S10000x129 .bf16) (u v : FVec Ideal S1x10000 .f32) (top : FVec Ideal S1x1 .f32),
      rows A E s B x u v top T wq wk wv (ix2 i l)
      = halves
          (fusedK (fun l => E (ix2 i l))
            (unit fun k : Fin 128 => avgK (s (ix2 i 0)) (top (ix2 0 0)) (fun j => u (ix2 0 j)) (fun j => v (ix2 0 j))
              (fun j => A (ix2 i j)) (fun j => x (ix2 j ⟨k, by omega⟩)))
            (fun l k => wq (ix2 l k)) (fun l k => wk (ix2 l k)) (fun l k => wv (ix2 l k)))
          (relMean (fun i r => B (ix2 i r)) (fun r k => T (ix2 r k)) i) l := fun _ _ _ _ _ => rfl
  rw [hr, src_at, peak_at, funext (expdst_at E g q), funext (expdst2_at E g q)]
  simp only [h]
  rfl

variable (m : (ℓ : Loc nD τ sig) → Buf (Elt Ideal) ℓ) (ρ : Dev nD → PrngReg) (c : Dev nD)

/-! ## The host's casts and shapes, entry by entry -/

theorem cast_W (l : Fin 128) (k : Fin 128) :
    (W1 m ρ c (Proc.devRef .tc main_v0) : FVec Ideal S128x128 .bf16) (ix2 l k) = (m ((c : Thread nD τ).loc main_arg8) : FVec Ideal S128x128 .f32) (ix2 l k) := by
  have h : W1 m ρ c (Proc.devRef .tc main_v0)
      = (truncf .bf16 (m ((c : Thread nD τ).loc main_arg8) : FVec Ideal S128x128 .f32) bitsLt_bf16_f32 : FVec Ideal S128x128 .bf16) := by
    after_results
  exact congrFun h _

theorem cast_q (l : Fin 128) (k : Fin 128) :
    (W1 m ρ c (Proc.devRef .tc main_v5) : FVec Ideal S128x128 .bf16) (ix2 l k) = (m ((c : Thread nD τ).loc main_arg11) : FVec Ideal S128x128 .f32) (ix2 l k) := by
  have h : W1 m ρ c (Proc.devRef .tc main_v5)
      = (truncf .bf16 (m ((c : Thread nD τ).loc main_arg11) : FVec Ideal S128x128 .f32) bitsLt_bf16_f32 : FVec Ideal S128x128 .bf16) := by
    after_results
  exact congrFun h _

theorem cast_k (l : Fin 128) (k : Fin 128) :
    (W1 m ρ c (Proc.devRef .tc main_v6) : FVec Ideal S128x128 .bf16) (ix2 l k) = (m ((c : Thread nD τ).loc main_arg12) : FVec Ideal S128x128 .f32) (ix2 l k) := by
  have h : W1 m ρ c (Proc.devRef .tc main_v6)
      = (truncf .bf16 (m ((c : Thread nD τ).loc main_arg12) : FVec Ideal S128x128 .f32) bitsLt_bf16_f32 : FVec Ideal S128x128 .bf16) := by
    after_results
  exact congrFun h _

theorem cast_v (l : Fin 128) (k : Fin 128) :
    (W1 m ρ c (Proc.devRef .tc main_v7) : FVec Ideal S128x128 .bf16) (ix2 l k) = (m ((c : Thread nD τ).loc main_arg13) : FVec Ideal S128x128 .f32) (ix2 l k) := by
  have h : W1 m ρ c (Proc.devRef .tc main_v7)
      = (truncf .bf16 (m ((c : Thread nD τ).loc main_arg13) : FVec Ideal S128x128 .f32) bitsLt_bf16_f32 : FVec Ideal S128x128 .bf16) := by
    after_results
  exact congrFun h _

theorem cast_rel (l : Fin 1000) (k : Fin 128) :
    (W1 m ρ c (Proc.devRef .tc main_v8) : FVec Ideal S1000x128 .bf16) (ix2 l k) = (m ((c : Thread nD τ).loc main_arg6) : FVec Ideal S1000x128 .f32) (ix2 l k) := by
  have h : W1 m ρ c (Proc.devRef .tc main_v8)
      = (truncf .bf16 (m ((c : Thread nD τ).loc main_arg6) : FVec Ideal S1000x128 .f32) bitsLt_bf16_f32 : FVec Ideal S1000x128 .bf16) := by
    after_results
  exact congrFun h _

theorem cast_src (k : Fin 128) :
    (W1 m ρ c (Proc.devRef .tc main_v2) : FVec Ideal S128x1 .bf16) (ix2 k 0) = (m ((c : Thread nD τ).loc main_arg9) : FVec Ideal S128 .f32) (ix1 k) := by
  have h : W1 m ρ c (Proc.devRef .tc main_v2)
      = (truncf .bf16 (shapeCast S128x1 (m ((c : Thread nD τ).loc main_arg9) : FVec Ideal S128 .f32) shapeCasts_S128_S128x1 : FVec Ideal S128x1 .f32)
          bitsLt_bf16_f32 : FVec Ideal S128x1 .bf16) := by
    after_results
    rfl
  refine (congrFun h _).trans ?_
  pointwise

theorem cast_dst (k : Fin 128) :
    (W1 m ρ c (Proc.devRef .tc main_v4) : FVec Ideal S1x128 .bf16) (ix2 0 k) = (m ((c : Thread nD τ).loc main_arg10) : FVec Ideal S128 .f32) (ix1 k) := by
  have h : W1 m ρ c (Proc.devRef .tc main_v4)
      = (truncf .bf16 (shapeCast S1x128 (m ((c : Thread nD τ).loc main_arg10) : FVec Ideal S128 .f32) shapeCasts_S128_S1x128 : FVec Ideal S1x128 .f32)
          bitsLt_bf16_f32 : FVec Ideal S1x128 .bf16) := by
    after_results
    rfl
  refine (congrFun h _).trans ?_
  pointwise

theorem cast_rel2 (l : Fin 1000) (k : Fin 128) :
    (W4 m ρ c (Proc.devRef .tc main_v11) : FVec Ideal S1000x128 .bf16) (ix2 l k) = (m ((c : Thread nD τ).loc main_arg7) : FVec Ideal S1000x128 .f32) (ix2 l k) := by
  have h : W4 m ρ c (Proc.devRef .tc main_v11)
      = (truncf .bf16 (W3 m ρ c (Proc.devRef .tc main_arg7) : FVec Ideal S1000x128 .f32) bitsLt_bf16_f32 : FVec Ideal S1000x128 .bf16) := by
    after_results
  refine (congrFun h _).trans ?_
  exact congrFun (W3_args m ρ c main_arg7 (by decide)) _

/-! ## What a grid leaves alone -/

theorem keep2 (r : Ref sig .tc) (h : ∀ w : Fin cfg0.W, Pipeline.arrRef spec0 w = r → (cfg0.win w).isOut = false) :
    V2 m ρ c r = W1 m ρ c (Proc.devRef .tc r) := W2_of m ρ c r h

/-- A buffer that no grid and no later host operation writes is, when the third grid starts, as the first host operations left it. -/
theorem keep4 (r : Ref sig .tc) (h0 : ∀ w : Fin cfg0.W, Pipeline.arrRef spec0 w = r → (cfg0.win w).isOut = false)
    (h1 : ∀ w : Fin cfg1.W, Pipeline.arrRef spec1 w = r → (cfg1.win w).isOut = false) (h2 : r ∉ hostOps2_W) :
    V4 m ρ c r = W1 m ρ c (Proc.devRef .tc r) :=
  (W4_of m ρ c r h2).trans ((W3_of m ρ c r h1).trans (W2_of m ρ c r h0))

/-! ## The results -/

/-- The first result, row by row. -/
theorem first_at (i : Fin 10000) (l : Fin 256) :
    (W6 m ρ c (Proc.devRef .tc main_v10) : FVec Ideal S10000x256 .f32) (ix2 i l)
      = branchK (fun i j => (m ((c : Thread nD τ).loc main_arg0) : FVec Ideal S10000x10000 .f32) (ix2 i j))
          (fun i l => (m ((c : Thread nD τ).loc main_arg4) : FVec Ideal S10000x128 .f32) (ix2 i l))
          (fun i r => (m ((c : Thread nD τ).loc main_arg2) : FVec Ideal S10000x1000 .f32) (ix2 i r))
          (fun r k => (m ((c : Thread nD τ).loc main_arg6) : FVec Ideal S1000x128 .f32) (ix2 r k))
          (fun l k => (m ((c : Thread nD τ).loc main_arg8) : FVec Ideal S128x128 .f32) (ix2 l k))
          (fun k => (m ((c : Thread nD τ).loc main_arg9) : FVec Ideal S128 .f32) (ix1 k))
          (fun k => (m ((c : Thread nD τ).loc main_arg10) : FVec Ideal S128 .f32) (ix1 k))
          (fun l k => (m ((c : Thread nD τ).loc main_arg11) : FVec Ideal S128x128 .f32) (ix2 l k))
          (fun l k => (m ((c : Thread nD τ).loc main_arg12) : FVec Ideal S128x128 .f32) (ix2 l k))
          (fun l k => (m ((c : Thread nD τ).loc main_arg13) : FVec Ideal S128x128 .f32) (ix2 l k)) i l := by
  have e4 : V1 m ρ c main_arg4 = m ((c : Thread nD τ).loc main_arg4) := W1_args m ρ c main_arg4 (by decide)
  have hx : V2 m ρ c main_v9_0 = k0_pay2 (F := Ideal) (V1 m ρ c main_arg4) (V1 m ρ c main_v0) := (W2_arr m ρ c 4).trans (ext0 (V1 m ρ) c)
  have hs : V2 m ρ c main_v9_1 = k0_pay3 (F := Ideal) (V1 m ρ c main_arg4) (V1 m ρ c main_v0) (V1 m ρ c main_v2) := (W2_arr m ρ c 5).trans (src0 (V1 m ρ) c)
  have hu : V2 m ρ c main_v9_2 = k0_pay5 (F := Ideal) (V1 m ρ c main_arg4) (V1 m ρ c main_v0) (V1 m ρ c main_v4) := (W2_arr m ρ c 6).trans (expdst0 (V1 m ρ) c)
  have hv : V2 m ρ c main_v9_3 = k0_pay6 (F := Ideal) (V1 m ρ c main_arg4) (V1 m ρ c main_v0) (V1 m ρ c main_v4) := (W2_arr m ρ c 7).trans (expdstSlope0 (V1 m ρ) c)
  have ht : V2 m ρ c main_v9_4 = k0_pay7 (F := Ideal) (V1 m ρ c main_arg4) (V1 m ρ c main_v0) (V1 m ρ c main_v4) := (W2_arr m ρ c 8).trans (peak0 (V1 m ρ) c)
  rw [e4] at hx hs hu hv ht
  have hr : W6 m ρ c (Proc.devRef .tc main_v10) = (dat1 (V2 m ρ) c).arrAt 13 cfg1.N :=
    (W6_of m ρ c main_v10 (by decide)).trans ((W5_of m ρ c main_v10 (by decide)).trans
      ((W4_of m ρ c main_v10 (by decide)).trans (W3_arr m ρ c 13)))
  have hone : ∀ j, (V2 m ρ c main_v9_0 : FVec Ideal S10000x129 .bf16) (ix2 j 128) = (1 : EReal) := fun j => by
    rw [hx, ext_at]; rfl
  have hrows := hr.trans (rows1 (V2 m ρ) c hone)
  rw [hx, hs, hu, hv, ht] at hrows
  rw [show V2 m ρ c main_arg0 = m ((c : Thread nD τ).loc main_arg0) from W2_args m ρ c main_arg0 (by decide),
    show V2 m ρ c main_arg4 = m ((c : Thread nD τ).loc main_arg4) from W2_args m ρ c main_arg4 (by decide),
    show V2 m ρ c main_arg2 = m ((c : Thread nD τ).loc main_arg2) from W2_args m ρ c main_arg2 (by decide),
    keep2 m ρ c main_v8 (by decide), keep2 m ρ c main_v5 (by decide), keep2 m ρ c main_v6 (by decide),
    keep2 m ρ c main_v7 (by decide)] at hrows
  rw [hrows]
  exact rows_branch _ _ _ _ _ _ _ _ _ _ (cast_rel m ρ c) (cast_W m ρ c) (cast_src m ρ c) (cast_dst m ρ c)
    (cast_q m ρ c) (cast_k m ρ c) (cast_v m ρ c) i l

/-- The second result, row by row. -/
theorem second_at (i : Fin 10000) (l : Fin 256) :
    (W6 m ρ c (Proc.devRef .tc main_v13) : FVec Ideal S10000x256 .f32) (ix2 i l)
      = branchK (fun i j => (m ((c : Thread nD τ).loc main_arg1) : FVec Ideal S10000x10000 .f32) (ix2 i j))
          (fun i l => (m ((c : Thread nD τ).loc main_arg5) : FVec Ideal S10000x128 .f32) (ix2 i l))
          (fun i r => (m ((c : Thread nD τ).loc main_arg3) : FVec Ideal S10000x1000 .f32) (ix2 i r))
          (fun r k => (m ((c : Thread nD τ).loc main_arg7) : FVec Ideal S1000x128 .f32) (ix2 r k))
          (fun l k => (m ((c : Thread nD τ).loc main_arg8) : FVec Ideal S128x128 .f32) (ix2 l k))
          (fun k => (m ((c : Thread nD τ).loc main_arg9) : FVec Ideal S128 .f32) (ix1 k))
          (fun k => (m ((c : Thread nD τ).loc main_arg10) : FVec Ideal S128 .f32) (ix1 k))
          (fun l k => (m ((c : Thread nD τ).loc main_arg11) : FVec Ideal S128x128 .f32) (ix2 l k))
          (fun l k => (m ((c : Thread nD τ).loc main_arg12) : FVec Ideal S128x128 .f32) (ix2 l k))
          (fun l k => (m ((c : Thread nD τ).loc main_arg13) : FVec Ideal S128x128 .f32) (ix2 l k)) i l := by
  have e5 : V4 m ρ c main_arg5 = m ((c : Thread nD τ).loc main_arg5) := W4_args m ρ c main_arg5 (by decide)
  have k0 := keep4 m ρ c main_v0 (by decide) (by decide) (by decide)
  have k2 := keep4 m ρ c main_v2 (by decide) (by decide) (by decide)
  have k4 := keep4 m ρ c main_v4 (by decide) (by decide) (by decide)
  have hx : V5 m ρ c main_v12_0 = k0_pay2 (F := Ideal) (V4 m ρ c main_arg5) (V4 m ρ c main_v0) := (W5_arr m ρ c 4).trans (ext2 (V4 m ρ) c)
  have hs : V5 m ρ c main_v12_1 = k0_pay3 (F := Ideal) (V4 m ρ c main_arg5) (V4 m ρ c main_v0) (V4 m ρ c main_v2) := (W5_arr m ρ c 5).trans (src2 (V4 m ρ) c)
  have hu : V5 m ρ c main_v12_2 = k0_pay5 (F := Ideal) (V4 m ρ c main_arg5) (V4 m ρ c main_v0) (V4 m ρ c main_v4) := (W5_arr m ρ c 6).trans (expdst2 (V4 m ρ) c)
  have hv : V5 m ρ c main_v12_3 = k0_pay6 (F := Ideal) (V4 m ρ c main_arg5) (V4 m ρ c main_v0) (V4 m ρ c main_v4) := (W5_arr m ρ c 7).trans (expdstSlope2 (V4 m ρ) c)
  have ht : V5 m ρ c main_v12_4 = k0_pay7 (F := Ideal) (V4 m ρ c main_arg5) (V4 m ρ c main_v0) (V4 m ρ c main_v4) := (W5_arr m ρ c 8).trans (peak2 (V4 m ρ) c)
  rw [e5, k0] at hx hs hu hv ht
  rw [k2] at hs
  rw [k4] at hu hv ht
  have hr : W6 m ρ c (Proc.devRef .tc main_v13) = (dat3 (V5 m ρ) c).arrAt 13 cfg3.N := W6_arr m ρ c 13
  have hone : ∀ j, (V5 m ρ c main_v12_0 : FVec Ideal S10000x129 .bf16) (ix2 j 128) = (1 : EReal) := fun j => by
    rw [hx, ext_at]; rfl
  have hrows := hr.trans (rows3 (V5 m ρ) c hone)
  rw [hx, hs, hu, hv, ht] at hrows
  rw [show V5 m ρ c main_arg1 = m ((c : Thread nD τ).loc main_arg1) from W5_args m ρ c main_arg1 (by decide),
    show V5 m ρ c main_arg5 = m ((c : Thread nD τ).loc main_arg5) from W5_args m ρ c main_arg5 (by decide),
    show V5 m ρ c main_arg3 = m ((c : Thread nD τ).loc main_arg3) from W5_args m ρ c main_arg3 (by decide),
    show V5 m ρ c main_v11 = W4 m ρ c (Proc.devRef .tc main_v11) from W5_of m ρ c main_v11 (by decide),
    show V5 m ρ c main_v5 = W1 m ρ c (Proc.devRef .tc main_v5) from (W5_of m ρ c main_v5 (by decide)).trans (keep4 m ρ c main_v5 (by decide) (by decide) (by decide)),
    show V5 m ρ c main_v6 = W1 m ρ c (Proc.devRef .tc main_v6) from (W5_of m ρ c main_v6 (by decide)).trans (keep4 m ρ c main_v6 (by decide) (by decide) (by decide)),
    show V5 m ρ c main_v7 = W1 m ρ c (Proc.devRef .tc main_v7) from (W5_of m ρ c main_v7 (by decide)).trans (keep4 m ρ c main_v7 (by decide) (by decide) (by decide))] at hrows
  rw [hrows]
  exact rows_branch _ _ _ _ _ _ _ _ _ _ (cast_rel2 m ρ c) (cast_W m ρ c) (cast_src m ρ c) (cast_dst m ρ c)
    (cast_q m ρ c) (cast_k m ρ c) (cast_v m ρ c) i l

end Cert.Branch.Chain

end
-- ==== Proof.Plain.lean ====
/- What the plain mathematics computes, at an index of a result, over the extended reals. -/
module

public import proofs.«01_k».proof.Proof.Gen.ReferenceIdeal.Read
public import proofs.«01_k».proof.Proof.Scalar
public import Idealize.ShloMosaic.Lib.Pointwise

@[expose] public section

set_option maxRecDepth 16384

noncomputable section

namespace Cert.Branch.Plain

open Idealize.ShloMosaic Idealize.ShloMosaic.TcCoe Idealize.SL.Sem
open Cert.ReferenceIdeal Cert.ReferenceIdeal.Gen Cert.ReferenceIdeal.Read

variable (A : FVec Ideal S10000x10000 .f32) (B : FVec Ideal S10000x1000 .f32) (E : FVec Ideal S10000x128 .f32)
  (T : FVec Ideal S1000x128 .f32) (G : FVec Ideal S128x128 .f32) (p q : FVec Ideal S128 .f32) (wq wk wv : FVec Ideal S128x128 .f32)

theorem feat_at (i : Fin 10000) (k : Fin 128) :
    val_main_v5 (F := Ideal) E G (ix2 i k) = feat (fun i l => E (ix2 i l)) (fun l k => G (ix2 l k)) i k := by
  unfold feat
  pointwise [val_main_v5]

theorem src_at (i : Fin 10000) :
    val_main_v6 (F := Ideal) E G p (ix1 i) = along (fun i l => E (ix2 i l)) (fun l k => G (ix2 l k)) (fun k => p (ix1 k)) i := by
  unfold along
  pointwise [val_main_v6, feat_at]

theorem dst_at (i : Fin 10000) :
    val_main_v7 (F := Ideal) E G q (ix1 i) = along (fun i l => E (ix2 i l)) (fun l k => G (ix2 l k)) (fun k => q (ix1 k)) i := by
  unfold along
  pointwise [val_main_v7, feat_at]

theorem edge_at (i j : Fin 10000) :
    val_main_v16 (F := Ideal) A E G p q (ix2 i j)
      = scoreR (along (fun i l => E (ix2 i l)) (fun l k => G (ix2 l k)) (fun k => p (ix1 k)) i)
          (along (fun i l => E (ix2 i l)) (fun l k => G (ix2 l k)) (fun k => q (ix1 k)) j) (A (ix2 i j)) := by
  unfold scoreR
  pointwise [val_main_v16, val_main_v15, val_main_v14, val_main_v13, val_main_v12, val_main_v11, val_main_v10, val_main_v9, val_main_v8,
    val_main_cst_0, val_main_cst_1, val_main_cst_2, val_main_call0_cst, val_main_call0_v0, val_main_call0_v1, val_main_call0_v2,
    val_main_call0_v3, val_main_call0_v4, val_main_call1_v0, val_main_call1_v1, id_eq, src_at, dst_at]
  rw [low_eq]

theorem rowMax_at (x : FVec Ideal S10000x10000 .f32) (c : FVec Ideal S_ .f32) (i : Fin 10000) :
    Host.reduce FloatOps.maximumf x c reducesTo_S10000x10000_S10000_d1 h_S_ (ix1 i)
      = Finset.univ.fold max (c ix0) fun j => x (ix2 i j) := by
  pointwise
  rw [show Shape.Idx.first h_S_ = ix0 from funext fun a => a.elim0]

theorem max_at (i : Fin 10000) :
    val_main_v17 (F := Ideal) A E G p q (ix1 i) = Finset.univ.fold max ⊥ fun j : Fin 10000 => val_main_v16 (F := Ideal) A E G p q (ix2 i j) := by
  unfold val_main_v17
  rw [rowMax_at, ← low_eq]
  rfl

theorem floor_at (y : FVec Ideal S10000 .f32) (i : Fin 10000) :
    maximumf (val_main_v18 (F := Ideal)) y (ix1 i) = max ⊥ (y (ix1 i)) := by
  pointwise [val_main_v18, val_main_cst_4]
  rw [low_eq]

theorem top_at (i : Fin 10000) :
    val_main_v19 (F := Ideal) A E G p q (ix1 i)
      = topR (along (fun i l => E (ix2 i l)) (fun l k => G (ix2 l k)) (fun k => p (ix1 k)) i)
          (along (fun i l => E (ix2 i l)) (fun l k => G (ix2 l k)) (fun k => q (ix1 k))) (fun j => A (ix2 i j)) := by
  unfold val_main_v19 topR
  rw [floor_at, max_at]
  refine congrArg (max ⊥) (congrArg (fun f => Finset.univ.fold max ⊥ f) (funext fun j => ?_))
  exact edge_at A E G p q i j

theorem exp_at (i j : Fin 10000) :
    val_main_v23 (F := Ideal) A E G p q (ix2 i j)
      = Ideal.exp (val_main_v16 (F := Ideal) A E G p q (ix2 i j) - val_main_v19 (F := Ideal) A E G p q (ix1 i)) := by
  pointwise [val_main_v23, val_main_v22, val_main_v21, val_main_v20]

theorem hood_at (i : Fin 10000) (k : Fin 128) :
    val_main_v28 (F := Ideal) A E G p q (ix2 i k)
      = hoodR (fun i j => A (ix2 i j)) (fun i l => E (ix2 i l)) (fun l k => G (ix2 l k)) (fun k => p (ix1 k)) (fun k => q (ix1 k)) i k := by
  unfold hoodR avgR
  pointwise [val_main_v28, val_main_v27, val_main_v26, val_main_v25, val_main_v24, val_main_cst_5, exp_at, edge_at, top_at, feat_at]

theorem unit_at (i : Fin 10000) (k : Fin 128) :
    val_main_v33 (F := Ideal) A E G p q (ix2 i k)
      = unit (hoodR (fun i j => A (ix2 i j)) (fun i l => E (ix2 i l)) (fun l k => G (ix2 l k)) (fun k => p (ix1 k)) (fun k => q (ix1 k)) i) k := by
  unfold unit
  pointwise [val_main_v33, val_main_v32, val_main_v31, val_main_v30, val_main_v29, val_main_cst_6, val_main_call2_v0, val_main_call2_v1,
    val_main_call2_v2, val_main_call2_cst, hood_at]

/-- The two tokens of a node. -/
theorem token_at (i : Fin 10000) (a : Fin 2) (l : Fin 128) :
    val_main_v35 (F := Ideal) A E G p q (ix3 i a l)
      = pair (fun l => E (ix2 i l)) (fun l => val_main_v33 (F := Ideal) A E G p q (ix2 i l)) a l := by
  unfold pair
  fin_cases a
  · pointwise [val_main_v35, val_main_v34]
  · pointwise [val_main_v35, val_main_v34]

theorem scores_at (i : Fin 10000) (a b : Fin 2) :
    val_main_v42 (F := Ideal) A E G p q wq wk (ix3 i a b)
      = scoresR (fun a l => val_main_v35 (F := Ideal) A E G p q (ix3 i a l)) (fun l k => wq (ix2 l k)) (fun l k => wk (ix2 l k)) a b := by
  unfold scoresR score proj
  pointwise [val_main_v42, val_main_v41, val_main_v40, val_main_v39, val_main_v37, val_main_v36, val_main_cst_7]

theorem relMean_at (i : Fin 10000) (k : Fin 128) :
    val_main_v4 (F := Ideal) B T (ix2 i k) = relMean (fun i r => B (ix2 i r)) (fun r k => T (ix2 r k)) i k := by
  unfold relMean
  pointwise [val_main_v4, val_main_v3, val_main_v2, val_main_v1, val_main_v0, val_main_cst]

theorem pairMax_at (x : FVec Ideal S10000x2x2 .f32) (c : FVec Ideal S_ .f32) (i : Fin 10000) (a : Fin 2) :
    Host.reduce FloatOps.maximumf x c reducesTo_S10000x2x2_S10000x2_d2 h_S_ (ix2 i a)
      = Finset.univ.fold max (c ix0) fun b => x (ix3 i a b) := by
  pointwise
  rw [show Shape.Idx.first h_S_ = ix0 from funext fun a => a.elim0]

theorem max2_at (i : Fin 10000) (a : Fin 2) :
    val_main_v43 (F := Ideal) A E G p q wq wk (ix2 i a)
      = Finset.univ.fold max ⊥ fun b : Fin 2 => val_main_v42 (F := Ideal) A E G p q wq wk (ix3 i a b) := by
  unfold val_main_v43
  rw [pairMax_at, ← low_eq]
  rfl

theorem floor2_at (y : FVec Ideal S10000x2 .f32) (i : Fin 10000) (a : Fin 2) :
    maximumf (val_main_v44 (F := Ideal)) y (ix2 i a) = max ⊥ (y (ix2 i a)) := by
  pointwise [val_main_v44, val_main_cst_9]
  rw [low_eq]

theorem top2_at (i : Fin 10000) (a : Fin 2) :
    val_main_v45 (F := Ideal) A E G p q wq wk (ix2 i a)
      = max ⊥ (Finset.univ.fold max ⊥ fun b : Fin 2 => val_main_v42 (F := Ideal) A E G p q wq wk (ix3 i a b)) := by
  unfold val_main_v45
  rw [floor2_at, max2_at]

theorem exp2_at (i : Fin 10000) (a b : Fin 2) :
    val_main_v49 (F := Ideal) A E G p q wq wk (ix3 i a b)
      = Ideal.exp (val_main_v42 (F := Ideal) A E G p q wq wk (ix3 i a b) - val_main_v45 (F := Ideal) A E G p q wq wk (ix2 i a)) := by
  pointwise [val_main_v49, val_main_v48, val_main_v47, val_main_v46]

theorem value_at (i : Fin 10000) (a : Fin 2) (k : Fin 128) :
    val_main_v38 (F := Ideal) A E G p q wv (ix3 i a k)
      = proj (fun l => val_main_v35 (F := Ideal) A E G p q (ix3 i a l)) (fun l k => wv (ix2 l k)) k := by
  unfold proj
  pointwise [val_main_v38]

theorem attended_at (i : Fin 10000) (a : Fin 2) (k : Fin 128) :
    val_main_v54 (F := Ideal) A E G p q wq wk wv (ix3 i a k)
      = tokenR (fun b => val_main_v42 (F := Ideal) A E G p q wq wk (ix3 i a b)) (fun b => val_main_v38 (F := Ideal) A E G p q wv (ix3 i b k)) := by
  unfold tokenR
  pointwise [val_main_v54, val_main_v53, val_main_v52, val_main_v51, val_main_v50, val_main_cst_10, exp2_at, top2_at]

theorem fused_at (i : Fin 10000) (k : Fin 128) :
    val_main_v57 (F := Ideal) A E G p q wq wk wv (ix2 i k)
      = fusedR (fun a l => val_main_v35 (F := Ideal) A E G p q (ix3 i a l)) (fun l k => wq (ix2 l k)) (fun l k => wk (ix2 l k))
          (fun l k => wv (ix2 l k)) k := by
  unfold fusedR
  pointwise [val_main_v57, val_main_v56, val_main_v55, val_main_cst_11, val_main_cst_12, attended_at, value_at, scores_at]

/-- One element of the plain result. -/
theorem result_at (i : Fin 10000) (l : Fin 256) :
    val_main_v58 (F := Ideal) A B E T G p q wq wk wv (ix2 i l)
      = branchR (fun i j => A (ix2 i j)) (fun i l => E (ix2 i l)) (fun i r => B (ix2 i r)) (fun r k => T (ix2 r k))
          (fun l k => G (ix2 l k)) (fun k => p (ix1 k)) (fun k => q (ix1 k)) (fun l k => wq (ix2 l k)) (fun l k => wk (ix2 l k))
          (fun l k => wv (ix2 l k)) i l := by
  have h1 : (fun a l => val_main_v35 (F := Ideal) A E G p q (ix3 i a l))
      = pair (fun l => E (ix2 i l)) (unit (hoodR (fun i j => A (ix2 i j)) (fun i l => E (ix2 i l)) (fun l k => G (ix2 l k))
          (fun k => p (ix1 k)) (fun k => q (ix1 k)) i)) := by
    funext a l
    rw [token_at, funext (unit_at A E G p q i)]
  unfold branchR halves
  rw [← h1]
  pointwise [val_main_v58, fused_at, relMean_at]

/-- The second result is the same function of its own arguments. -/
theorem second_eq : val_main_v117 (F := Ideal) A B E T G p q wq wk wv = val_main_v58 (F := Ideal) A B E T G p q wq wk wv := rfl

end Cert.Branch.Plain

end
-- ==== Proof.Tame.lean ====
/- What the precondition says of the arguments, as facts about their entries. -/
module

public import proofs.«01_k».proof.Pre_tame
public import proofs.«01_k».proof.Proof.Scalar
public import Idealize.ShloMosaic.Lib.Pointwise
public import Idealize.ShloMosaic.Lib.StableHlo.Predicate

@[expose] public section

set_option maxRecDepth 16384

noncomputable section

namespace Cert.Branch.Tame

open Idealize.ShloMosaic Idealize.ShloMosaic.TcCoe
open Idealize.ShloMosaic.StableHlo.Predicate (ofBool_eq_one_iff)
open Cert.Pre_tame

/-- A number whose absolute value is below infinity is finite. -/
theorem real_of_abs {x : Ideal .f32} (h : decide (FloatOps.absf x < Ideal.ofBits FTy.f32 0x7F800000#32) = true) : IsReal x := by
  have h2 : max (x : EReal) (-x) < ⊤ := by
    have := of_decide_eq_true h
    rw [high_eq] at this
    exact this
  induction x using EReal.rec with
  | bot => exact absurd h2 (by simp)
  | coe r => exact ⟨r, rfl⟩
  | top => exact absurd h2 (by simp)

/-- One of two bits set. -/
theorem or_bits {a b : Prop} [Decidable a] [Decidable b]
    (h : IntOp.ori (BitVec.ofBool (decide a)) (BitVec.ofBool (decide b)) = 1#1) : a ∨ b := by
  by_cases ha : a
  · exact .inl ha
  · by_cases hb : b
    · exact .inr hb
    · rw [decide_eq_false ha, decide_eq_false hb] at h
      exact absurd h (by decide)

variable [Cert.Pre_tame.Facts]
open Cert.Pre_tame.Facts

/-- Every entry of a graph is zero or one. -/
theorem edge_at (A : FVec Ideal S10000x10000 .f32)
    (h : ori (cmpf .oeq A (broadcastInDim S10000x10000 ![] bcast_S_S10000x10000 (constant S_ .f32 0x00000000#32)))
        (cmpf .oeq A (broadcastInDim S10000x10000 ![] bcast_S_S10000x10000 (constant S_ .f32 0x3F800000#32))) = fun _ => 1#1)
    (i j : Fin 10000) : A (ix2 i j) = 0 ∨ A (ix2 i j) = 1 := by
  have e : ori (cmpf .oeq A (broadcastInDim S10000x10000 ![] bcast_S_S10000x10000 (constant S_ .f32 0x00000000#32)))
        (cmpf .oeq A (broadcastInDim S10000x10000 ![] bcast_S_S10000x10000 (constant S_ .f32 0x3F800000#32))) (ix2 i j)
      = IntOp.ori (BitVec.ofBool (decide (A (ix2 i j) = 0))) (BitVec.ofBool (decide (A (ix2 i j) = 1))) := by pointwise
  exact or_bits (e.symm.trans (congrFun h _))

theorem finite_emb_at (x : FVec Ideal S10000x128 .f32) (i : S10000x128.Idx)
    (h : cmpf .olt (Host.absf x) (broadcastInDim S10000x128 ![] bcast_S_S10000x128 (constant S_ .f32 0x7F800000#32)) = fun _ => 1#1) : IsReal (x i) := by
  have e : cmpf .olt (Host.absf x) (broadcastInDim S10000x128 ![] bcast_S_S10000x128 (constant S_ .f32 0x7F800000#32)) i
      = BitVec.ofBool (decide (FloatOps.absf (x i) < Ideal.ofBits FTy.f32 0x7F800000#32)) := by pointwise
  exact real_of_abs ((ofBool_eq_one_iff _).mp (e.symm.trans (congrFun h i)))

theorem finite_mat_at (x : FVec Ideal S128x128 .f32) (i : S128x128.Idx)
    (h : cmpf .olt (Host.absf x) (broadcastInDim S128x128 ![] bcast_S_S128x128 (constant S_ .f32 0x7F800000#32)) = fun _ => 1#1) : IsReal (x i) := by
  have e : cmpf .olt (Host.absf x) (broadcastInDim S128x128 ![] bcast_S_S128x128 (constant S_ .f32 0x7F800000#32)) i
      = BitVec.ofBool (decide (FloatOps.absf (x i) < Ideal.ofBits FTy.f32 0x7F800000#32)) := by pointwise
  exact real_of_abs ((ofBool_eq_one_iff _).mp (e.symm.trans (congrFun h i)))

theorem finite_vec_at (x : FVec Ideal S128 .f32) (i : S128.Idx)
    (h : cmpf .olt (Host.absf x) (broadcastInDim S128 ![] bcast_S_S128 (constant S_ .f32 0x7F800000#32)) = fun _ => 1#1) : IsReal (x i) := by
  have e : cmpf .olt (Host.absf x) (broadcastInDim S128 ![] bcast_S_S128 (constant S_ .f32 0x7F800000#32)) i
      = BitVec.ofBool (decide (FloatOps.absf (x i) < Ideal.ofBits FTy.f32 0x7F800000#32)) := by pointwise
  exact real_of_abs ((ofBool_eq_one_iff _).mp (e.symm.trans (congrFun h i)))

/-- The eight parts of the precondition, by entries. -/
theorem decode (x0 : FVec Ideal S10000x10000 .f32) (x1 : FVec Ideal S10000x10000 .f32) (x2 : FVec Ideal S10000x1000 .f32) (x3 : FVec Ideal S10000x1000 .f32) (x4 : FVec Ideal S10000x128 .f32) (x5 : FVec Ideal S10000x128 .f32) (x6 : FVec Ideal S1000x128 .f32) (x7 : FVec Ideal S1000x128 .f32) (x8 : FVec Ideal S128x128 .f32) (x9 : FVec Ideal S128 .f32) (x10 : FVec Ideal S128 .f32) (x11 : FVec Ideal S128x128 .f32) (x12 : FVec Ideal S128x128 .f32) (x13 : FVec Ideal S128x128 .f32)
    (h : (fn (F := Ideal) x0 x1 x2 x3 x4 x5 x6 x7 x8 x9 x10 x11 x12 x13).1 = (fun _ => 1#1)
      ∧ (fn (F := Ideal) x0 x1 x2 x3 x4 x5 x6 x7 x8 x9 x10 x11 x12 x13).2.1 = (fun _ => 1#1)
      ∧ (fn (F := Ideal) x0 x1 x2 x3 x4 x5 x6 x7 x8 x9 x10 x11 x12 x13).2.2.1 = (fun _ => 1#1)
      ∧ (fn (F := Ideal) x0 x1 x2 x3 x4 x5 x6 x7 x8 x9 x10 x11 x12 x13).2.2.2.1 = (fun _ => 1#1)
      ∧ (fn (F := Ideal) x0 x1 x2 x3 x4 x5 x6 x7 x8 x9 x10 x11 x12 x13).2.2.2.2.1 = (fun _ => 1#1)
      ∧ (fn (F := Ideal) x0 x1 x2 x3 x4 x5 x6 x7 x8 x9 x10 x11 x12 x13).2.2.2.2.2.1 = (fun _ => 1#1)
      ∧ (fn (F := Ideal) x0 x1 x2 x3 x4 x5 x6 x7 x8 x9 x10 x11 x12 x13).2.2.2.2.2.2.1 = (fun _ => 1#1)
      ∧ (fn (F := Ideal) x0 x1 x2 x3 x4 x5 x6 x7 x8 x9 x10 x11 x12 x13).2.2.2.2.2.2.2 = (fun _ => 1#1)) :
    (∀ i j : Fin 10000, x0 (ix2 i j) = 0 ∨ x0 (ix2 i j) = 1) ∧ (∀ i j : Fin 10000, x1 (ix2 i j) = 0 ∨ x1 (ix2 i j) = 1)
    ∧ (∀ i l, IsReal (x4 (ix2 i l))) ∧ (∀ i l, IsReal (x5 (ix2 i l))) ∧ (∀ i l, IsReal (x8 (ix2 i l)))
    ∧ (∀ k, IsReal (x10 (ix1 k))) ∧ (∀ i l, IsReal (x11 (ix2 i l))) ∧ (∀ i l, IsReal (x12 (ix2 i l))) := by
  obtain ⟨h1, h2, h3, h4, h5, h6, h7, h8⟩ := h
  exact ⟨edge_at x0 h1, edge_at x1 h2, fun i l => finite_emb_at x4 _ h3, fun i l => finite_emb_at x5 _ h4,
    fun i l => finite_mat_at x8 _ h5, fun k => finite_vec_at x10 _ h6, fun i l => finite_mat_at x11 _ h7,
    fun i l => finite_mat_at x12 _ h8⟩

end Cert.Branch.Tame

end
-- ==== Proof.lean ====
/- The proof of the certificate's claims: every run of the three programs ends with its arguments unchanged and nothing pending,
   the exact kernel is the kernel's own operations, and both its results are the reference's. -/
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Run
public import proofs.«01_k».proof.Proof.Chain
public import proofs.«01_k».proof.Proof.Plain
public import proofs.«01_k».proof.Proof.Tame
public import Idealize.ShloMosaic.Adequacy
public import Idealize.ShloMosaic.Init
public import Idealize.ShloMosaic.Lib.Quiescent
public import Idealize.ShloMosaic.Lib.StableHlo.RunHlo

@[expose] public section

set_option maxRecDepth 16384

noncomputable section

namespace Cert.Proof

open Idealize.ShloMosaic Idealize.ShloMosaic.TcCoe Idealize.SL.Sem Cert.Branch

instance : Cert.Kernel.Facts := Cert.Kernel.Gen.facts
instance : Cert.KernelIdeal.Facts := Cert.KernelIdeal.Gen.facts
instance : Cert.ReferenceIdeal.Facts := Cert.ReferenceIdeal.Gen.facts
instance : Cert.Pre_tame.Facts := Cert.Pre_tame.Gen.facts

/-- The reference's run, its results as functions of its arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v58)
        = Cert.ReferenceIdeal.Read.val_main_v58 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v117)
        = Cert.ReferenceIdeal.Read.val_main_v117 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  θ_run_mono (Cert.ReferenceIdeal.Value.run m ρ) fun r h c =>
    ⟨(h c).1.trans (Cert.ReferenceIdeal.Read.val_main_v58_eq (StableHlo.launchContents m c)),
      (h c).2.1.trans (Cert.ReferenceIdeal.Read.val_main_v117_eq (StableHlo.launchContents m c)), (h c).2.2⟩

/-- The reference's first result is the kernel's. -/
theorem first_eq (m : (ℓ : Loc Cert.KernelIdeal.nD Cert.KernelIdeal.τ Cert.KernelIdeal.sig) → Buf (Elt Ideal) ℓ) (g : Dev Cert.KernelIdeal.nD → PrngReg)
    (hpre : Cert.Pre_KernelIdeal_tame m) (c : Dev Cert.KernelIdeal.nD) :
    Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W6 m g c (Proc.devRef .tc Cert.KernelIdeal.main_v10) := by
  obtain ⟨a0, a1, h4, h5, h8, h10, h11, h12⟩ := Tame.decode _ _ _ _ _ _ _ _ _ _ _ _ _ _ (hpre c)
  funext y
  rw [eq_ix2 y]
  refine (Plain.result_at (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (y 0) (y 1)).trans ?_
  refine Eq.trans ?_ (Chain.first_at m g c (y 0) (y 1)).symm
  exact (congrFun (branch_eq _ _ _ _ a0 h4 h8 h10 h11 h12 (y 0)) (y 1)).symm

/-- The reference's second result is the kernel's. -/
theorem second_eq (m : (ℓ : Loc Cert.KernelIdeal.nD Cert.KernelIdeal.τ Cert.KernelIdeal.sig) → Buf (Elt Ideal) ℓ) (g : Dev Cert.KernelIdeal.nD → PrngReg)
    (hpre : Cert.Pre_KernelIdeal_tame m) (c : Dev Cert.KernelIdeal.nD) :
    Cert.ReferenceIdeal.Read.val_main_v117 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W6 m g c (Proc.devRef .tc Cert.KernelIdeal.main_v13) := by
  obtain ⟨a0, a1, h4, h5, h8, h10, h11, h12⟩ := Tame.decode _ _ _ _ _ _ _ _ _ _ _ _ _ _ (hpre c)
  rw [Plain.second_eq]
  funext y
  rw [eq_ix2 y]
  refine (Plain.result_at (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (y 0) (y 1)).trans ?_
  refine Eq.trans ?_ (Chain.second_at m g c (y 0) (y 1)).symm
  exact (congrFun (branch_eq _ _ _ _ a1 h5 h8 h10 h11 h12 (y 0)) (y 1)).symm

/-- Under the precondition both results of the kernel are the reference's, over the extended reals. -/
theorem same : Cert.algebraic_KernelIdeal_ReferenceIdeal_pre_tame := by
  intro m g m' g' hpre hagree
  refine ⟨fun c => Cert.KernelIdeal.Gen.W6 m g c (Proc.devRef .tc Cert.KernelIdeal.main_v10),
    fun c => Cert.KernelIdeal.Gen.W6 m g c (Proc.devRef .tc Cert.KernelIdeal.main_v13), Run.results m g,
    θ_run_mono (reference_run m' g') fun r h c => ?_⟩
  obtain ⟨r1, r2, ra⟩ := h c
  obtain ⟨e0, e1, e2, e3, e4, e5, e6, e7, e8, e9, e10, e11, e12, e13⟩ := hagree c
  rw [e0, e2, e4, e6, e8, e9, e10, e11, e12, e13] at r1
  rw [e1, e3, e5, e7, e8, e9, e10, e11, e12, e13] at r2
  exact ⟨r1.trans (first_eq m g hpre c), r2.trans (second_eq m g hpre c), ra⟩

/-- The certificate. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ,
  fun m ρ _ => Cert.KernelIdeal.Gen.frame m ρ,
  fun m ρ _ => Cert.KernelIdeal.Gen.frame m ρ,
  fun m ρ _ => θ_run_mono (Cert.ReferenceIdeal.Value.run m ρ) fun r h => ⟨fun c => (h c).2.2, sem_eq_zero_of_no_sems (by decide) _⟩,
  fun m ρ _ => θ_run_mono (Cert.ReferenceIdeal.Value.run m ρ) fun r h => ⟨fun c => (h c).2.2, sem_eq_zero_of_no_sems (by decide) _⟩,
  trivial, same⟩

end Cert.Proof

end
